-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = Layout.block ⟨3, ![2, 256, 512]⟩ ⟨3, ![8, 256, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v60) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S8x256x16x64 : Shape := ⟨4, ![8, 256, 16, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S8x256x16x64 : S_.BroadcastsInDim S8x256x16x64 (![] : Fin 0 → Fin S8x256x16x64.rank)
  reducesTo_S8x256x16x64_S_d0_1_2_3 : S8x256x16x64.ReducesTo [0, 1, 2, 3] S_

variable [Facts]

def fn {F : FTy → Type} [FloatOps F] (main_arg0 : FVec F S2x256x512 .f32) (main_arg1 : FVec F S512x256 .f32) (main_arg2 : FVec F S8x256x16x64 .f32) (main_arg3 : FVec F S8x256x16x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S8x256x16x64 .f32 := Host.absf main_arg2
  let main_cst_0 : FVec F S_ .f32 := constant S_ .f32 0x7F800000#32
  let main_v5 : FVec F S8x256x16x64 .f32 := broadcastInDim S8x256x16x64 ![] bcast_S_S8x256x16x64 main_cst_0
  let main_v6 : IVec S8x256x16x64 1 := cmpf .olt main_v4 main_v5
  let main_c_1 : IVec S_ 1 := constantI S_ 1 1#1
  let main_v7 : IVec S_ 1 := (fun x v => Host.reduce IntOp.andi x v reducesTo_S8x256x16x64_S_d0_1_2_3 h_S_) main_v6 main_c_1
  let main_v8 : IVec S_ 1 := andi main_v3 main_v7
  main_v8
-- ==== Pre_finite_scores_ReferenceIdeal.lean ====
abbrev S8x256x512 : Shape := ⟨3, ![8, 256, 512]⟩
abbrev S512x1024 : Shape := ⟨2, ![512, 1024]⟩
abbrev S8x256x16x64 : Shape := ⟨4, ![8, 256, 16, 64]⟩
abbrev S1024x512 : Shape := ⟨2, ![1024, 512]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x256x16x64 : S_.BroadcastsInDim S8x256x16x64 (![] : Fin 0 → Fin S8x256x16x64.rank)
  reducesTo_S8x256x16x64_S_d0_1_2_3 : S8x256x16x64.ReducesTo [0, 1, 2, 3] S_

variable [Facts]

def fn {F : FTy → Type} [FloatOps F] (main_arg0 : FVec F S8x256x512 .f32) (main_arg1 : FVec F S512x1024 .f32) (main_arg2 : FVec F S8x256x16x64 .f32) (main_arg3 : FVec F S8x256x16x64 .f32) (main_arg4 : FVec F S1024x512 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x256x16x64 .f32 := Host.absf main_arg2
  let main_cst_0 : FVec F S_ .f32 := constant S_ .f32 0x7F800000#32
  let main_v5 : FVec F S8x256x16x64 .f32 := broadcastInDim S8x256x16x64 ![] bcast_S_S8x256x16x64 main_cst_0
  let main_v6 : IVec S8x256x16x64 1 := cmpf .olt main_v4 main_v5
  let main_c_1 : IVec S_ 1 := constantI S_ 1 1#1
  let main_v7 : IVec S_ 1 := (fun x v => Host.reduce IntOp.andi x v reducesTo_S8x256x16x64_S_d0_1_2_3 h_S_) main_v6 main_c_1
  let main_v8 : IVec S_ 1 := andi main_v3 main_v7
  main_v8
-- ==== Kernel.lean ====
abbrev S2x256x512 : Shape := ⟨3, ![2, 256, 512]⟩
abbrev S512x256 : Shape := ⟨2, ![512, 256]⟩
abbrev S8x256x16x64 : Shape := ⟨4, ![8, 256, 16, 64]⟩
abbrev S256x512 : Shape := ⟨2, ![256, 512]⟩
abbrev S_ : Shape := ⟨0, ![]⟩
abbrev S2x256x16x64 : Shape := ⟨4, ![2, 256, 16, 64]⟩
abbrev S2x16x256x64 : Shape := ⟨4, ![2, 16, 256, 64]⟩
abbrev S32x256x64 : Shape := ⟨3, ![32, 256, 64]⟩
abbrev S512x512 : Shape := ⟨2, ![512, 512]⟩
abbrev S2x256 : Shape := ⟨2, ![2, 256]⟩
abbrev S3x512x256 : Shape := ⟨3, ![3, 512, 256]⟩
abbrev S3x256x512 : Shape := ⟨3, ![3, 256, 512]⟩
abbrev S3x2x256 : Shape := ⟨3, ![3, 2, 256]⟩
abbrev S3 : Shape := ⟨1, ![3]⟩
abbrev S256 : Shape := ⟨1, ![256]⟩
abbrev S1x256 : Shape := ⟨2, ![1, 256]⟩
abbrev S256x1 : Shape := ⟨2, ![256, 1]⟩
abbrev S1 : Shape := ⟨1, ![1]⟩
abbrev S1x2x256 : Shape := ⟨3, ![1, 2, 256]⟩
abbrev S1x512x256 : Shape := ⟨3, ![1, 512, 256]⟩
abbrev S1x256x512 : Shape := ⟨3, ![1, 256, 512]⟩
abbrev S256x256 : Shape := ⟨2, ![256, 256]⟩
abbrev S4x256x64 : Shape := ⟨3, ![4, 256, 64]⟩
abbrev S256x64 : Shape := ⟨2, ![256, 64]⟩
abbrev S1x256x64 : Shape := ⟨3, ![1, 256, 64]⟩
abbrev S1x1x256 : Shape := ⟨3, ![1, 1, 256]⟩

abbrev nBuf : Space → Nat
  | .hbm => 40
  | .vmem => 14
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S8x256x16x64, .f32⟩
  | .hbm, ⟨3, _⟩ => ⟨S8x256x16x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x256x16x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x256x16x64, .f32⟩
  | .hbm, ⟨33, _⟩ => ⟨S2x256x16x64, .bf16⟩
  | .hbm, ⟨34, _⟩ => ⟨S2x16x256x64, .bf16⟩
  | .hbm, ⟨35, _⟩ => ⟨S32x256x64, .bf16⟩
  | .hbm, ⟨36, _⟩ => ⟨S2x256x16x64, .bf16⟩
  | .hbm, ⟨37, _⟩ => ⟨S2x16x256x64, .bf16⟩
  | .hbm, ⟨38, _⟩ => ⟨S32x256x64, .bf16⟩
  | .hbm, ⟨39, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S32x256x64, .bf16⟩
  | .local _ .vmem, ⟨3, _⟩ => ⟨S32x256x64, .bf16⟩
  | .local _ .vmem, ⟨4, _⟩ => ⟨S256x512, .f32⟩
  | .local _ .vmem, ⟨5, _⟩ => ⟨S2x256x512, .f32⟩
  | .local _ .vmem, ⟨6, _⟩ => ⟨S512x512, .bf16⟩
  | .local _ .vmem, ⟨7, _⟩ => ⟨S512x256, .i8⟩
  | .local _ .vmem, ⟨8, _⟩ => ⟨S256x512, .i8⟩
  | .local _ .vmem, ⟨9, _⟩ => ⟨S2x256, .f32⟩
  | .local _ .vmem, ⟨10, _⟩ => ⟨S3x512x256, .i8⟩
  | .local _ .vmem, ⟨11, _⟩ => ⟨S3x256x512, .i8⟩
  | .local _ .vmem, ⟨12, _⟩ => ⟨S3x2x256, .f32⟩
  | .local _ .vmem, ⟨13, _⟩ => ⟨S512x256, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v43 : BitVec 32 := Scalar.addi v2 c1_i32_15
  let c4_i32_16 : BitVec 32 := 4#32
  let v44 : BitVec 32 := Scalar.remsi v43 c4_i32_16
  let c1_i32_18 : BitVec 32 := 1#32
  let v45 : BitVec 32 := Scalar.muli v44 c1_i32_18
  let v46 : BitVec 32 := Scalar.addi c0_i32 v45
  v46.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v47 : BitVec 32 := Scalar.addi v2 c2_i32
  let c4_i32_19 : BitVec 32 := 4#32
  let v48 : BitVec 32 := Scalar.remsi v47 c4_i32_19
  let c1_i32_21 : BitVec 32 := 1#32
  let v49 : BitVec 32 := Scalar.muli v48 c1_i32_21
  let v50 : BitVec 32 := Scalar.addi c0_i32_22 v49
  v50.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v51 : BitVec 32 := Scalar.addi v2 c3_i32
  let c4_i32_23 : BitVec 32 := 4#32
  let v52 : BitVec 32 := Scalar.remsi v51 c4_i32_23
  let c1_i32_25 : BitVec 32 := 1#32
  let v53 : BitVec 32 := Scalar.muli v52 c1_i32_25
  let v54 : BitVec 32 := Scalar.addi c0_i32_26 v53
  v54.toNat
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v55 : BitVec 32 := Scalar.addi v2 c1_i32_28
  let c4_i32_29 : BitVec 32 := 4#32
  let v56 : BitVec 32 := Scalar.remsi v55 c4_i32_29
  let c1_i32_33 : BitVec 32 := 1#32
  let v57 : BitVec 32 := Scalar.muli v56 c1_i32_33
  let v58 : BitVec 32 := Scalar.addi c0_i32_34 v57
  v58.toNat
def k0_dev5 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v55 : BitVec 32 := Scalar.addi v2 c1_i32_28
  let c4_i32_29 : BitVec 32 := 4#32
  let v56 : BitVec 32 := Scalar.remsi v55 c4_i32_29
  let c1_i32_40 : BitVec 32 := 1#32
  let v65 : BitVec 32 := Scalar.muli v56 c1_i32_40
  let v66 : BitVec 32 := Scalar.addi c0_i32_41 v65
  v66.toNat
def k0_dev6 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v55 : BitVec 32 := Scalar.addi v2 c1_i32_28
  let c4_i32_29 : BitVec 32 := 4#32
  let v56 : BitVec 32 := Scalar.remsi v55 c4_i32_29
  let c1_i32_47 : BitVec 32 := 1#32
  let v73 : BitVec 32 := Scalar.muli v56 c1_i32_47
  let v74 : BitVec 32 := Scalar.addi c0_i32_48 v73
  v74.toNat
def k0_dev7 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_51 : BitVec 32 := 2#32
  let v81 : BitVec 32 := Scalar.addi v2 c2_i32_51
  let c4_i32_52 : BitVec 32 := 4#32
  let v82 : BitVec 32 := Scalar.remsi v81 c4_i32_52
  let c1_i32_56 : BitVec 32 := 1#32
  let v83 : BitVec 32 := Scalar.muli v82 c1_i32_56
  let v84 : BitVec 32 := Scalar.addi c0_i32_57 v83
  v84.toNat
def k0_dev8 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_51 : BitVec 32 := 2#32
  let v81 : BitVec 32 := Scalar.addi v2 c2_i32_51
  let c4_i32_52 : BitVec 32 := 4#32
  let v82 : BitVec 32 := Scalar.remsi v81 c4_i32_52
  let c1_i32_63 : BitVec 32 := 1#32
  let v91 : BitVec 32 := Scalar.muli v82 c1_i32_63
  let v92 : BitVec 32 := Scalar.addi c0_i32_64 v91
  v92.toNat
def k0_dev9 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_51 : BitVec 32 := 2#32
  let v81 : BitVec 32 := Scalar.addi v2 c2_i32_51
  let c4_i32_52 : BitVec 32 := 4#32
  let v82 : BitVec 32 := Scalar.remsi v81 c4_i32_52
  let c1_i32_70 : BitVec 32 := 1#32
  let v99 : BitVec 32 := Scalar.muli v82 c1_i32_70
  let v100 : BitVec 32 := Scalar.addi c0_i32_71 v99
  v100.toNat
def k0_dev10 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_74 : BitVec 32 := 3#32
  let v107 : BitVec 32 := Scalar.addi v2 c3_i32_74
  let c4_i32_75 : BitVec 32 := 4#32
  let v108 : BitVec 32 := Scalar.remsi v107 c4_i32_75
  let c1_i32_79 : BitVec 32 := 1#32
  let v109 : BitVec 32 := Scalar.muli v108 c1_i32_79
  let v110 : BitVec 32 := Scalar.addi c0_i32_80 v109
  v110.toNat
def k0_dev11 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_74 : BitVec 32 := 3#32
  let v107 : BitVec 32 := Scalar.addi v2 c3_i32_74
  let c4_i32_75 : BitVec 32 := 4#32
  let v108 : BitVec 32 := Scalar.remsi v107 c4_i32_75
  let c1_i32_86 : BitVec 32 := 1#32
  let v117 : BitVec 32 := Scalar.muli v108 c1_i32_86
  let v118 : BitVec 32 := Scalar.addi c0_i32_87 v117
  v118.toNat
def k0_dev12 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_74 : BitVec 32 := 3#32
  let v107 : BitVec 32 := Scalar.addi v2 c3_i32_74
  let c4_i32_75 : BitVec 32 := 4#32
  let v108 : BitVec 32 := Scalar.remsi v107 c4_i32_75
  let c1_i32_93 : BitVec 32 := 1#32
  let v125 : BitVec 32 := Scalar.muli v108 c1_i32_93
  let v126 : BitVec 32 := Scalar.addi c0_i32_94 v125
  v126.toNat
def k0_off1 (d0 : Dev nD) (c0_i32_117 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_116 : BitVec 32 := 4#32
  let v162 : BitVec 32 := Scalar.muli v2 c4_i32_116
  let v163 : BitVec 32 := Scalar.addi c0_i32_117 v162
  let v164 : Index := Scalar.indexCast v163
  let c0_118 : Index := 0#32
  let c0_119 : Index := 0#32
  ![v164.toNat, 0, 0]
def k0_off2 (d0 : Dev nD) (c0_i32_217 : BitVec 32) (c1_i32_200 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v362 : BitVec 32 := Scalar.subi v2 c1_i32_200
  let c4_i32_201 : BitVec 32 := 4#32
  let v363 : BitVec 32 := Scalar.addi v362 c4_i32_201
  let c4_i32_202 : BitVec 32 := 4#32
  let v364 : BitVec 32 := Scalar.remsi v363 c4_i32_202
  let c4_i32_216 : BitVec 32 := 4#32
  let v379 : BitVec 32 := Scalar.muli v364 c4_i32_216
  let v380 : BitVec 32 := Scalar.addi c0_i32_217 v379
  let v381 : Index := Scalar.indexCast v380
  let c0_218 : Index := 0#32
  let c0_219 : Index := 0#32
  ![v381.toNat, 0, 0]
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x256x512 : Shape := ⟨3, ![8, 256, 512]⟩
abbrev S512x1024 : Shape := ⟨2, ![512, 1024]⟩
abbrev S8x256x16x64 : Shape := ⟨4, ![8, 256, 16, 64]⟩
abbrev S1024x512 : Shape := ⟨2, ![1024, 512]⟩
abbrev S_ : Shape := ⟨0, ![]⟩
abbrev S1024 : Shape := ⟨1, ![1024]⟩
abbrev S1x1024 : Shape := ⟨2, ![1, 1024]⟩
abbrev S1024x1 : Shape := ⟨2, ![1024, 1]⟩
abbrev S8x256x1024 : Shape := ⟨3, ![8, 256, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x16x256x256 : Shape := ⟨4, ![8, 16, 256, 256]⟩
abbrev S1x1x256x256 : Shape := ⟨4, ![1, 1, 256, 256]⟩
abbrev S8x16x256 : Shape := ⟨3, ![8, 16, 256]⟩
abbrev S8x16x256x1 : Shape := ⟨4, ![8, 16, 256, 1]⟩
abbrev S1x1x256x1 : Shape := ⟨4, ![1, 1, 256, 1]⟩
abbrev S8x16x64x256 : Shape := ⟨4, ![8, 16, 64, 256]⟩

abbrev nBuf : Space → Nat
  | .hbm => 103
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S512x1024, .f32⟩
  | .hbm, ⟨2, _⟩ => ⟨S8x256x16x64, .f32⟩
  | .hbm, ⟨3, _⟩ => ⟨S8x256x16x64, .f32⟩
  | .hbm, ⟨4, _⟩ => ⟨S1024x512, .f32⟩
  | .hbm, ⟨5, _⟩ => ⟨S512x1024, .f32⟩
  | .hbm, ⟨6, _⟩ => ⟨S_, .f32⟩
  | .hbm, ⟨7, _⟩ => ⟨S1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S1024x512, .f32⟩
  | .hbm, ⟨16, _⟩ => ⟨S_, .f32⟩
  | .hbm, ⟨17, _⟩ => ⟨S1024, .f32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S_, .f32⟩
  | .hbm, ⟨23, _⟩ => ⟨S1024x1, .f32⟩
  | .hbm, ⟨24, _⟩ => ⟨S1024x1, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S512x1024, .f32⟩
  | .hbm, ⟨38, _⟩ => ⟨S1024x512, .f32⟩
  | .hbm, ⟨39, _⟩ => ⟨S1024x512, .f32⟩
  | .hbm, ⟨40, _⟩ => ⟨S1024x512, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1024x512, .f32⟩
  | .hbm, ⟨45, _⟩ => ⟨S1024x512, .f32⟩
  | .hbm, ⟨46, _⟩ => ⟨S_, .f32⟩
  | .hbm, ⟨47, _⟩ => ⟨S1024x512, .f32⟩
  | .hbm, ⟨48, _⟩ => ⟨S1024x512, .f32⟩
  | .hbm, ⟨49, _⟩ => ⟨S1024x512, .f32⟩
  | .hbm, ⟨50, _⟩ => ⟨S1024x512, .f32⟩
  | .hbm, ⟨51, _⟩ => ⟨S8x256x1024, .f32⟩
  | .hbm, ⟨52, _⟩ => ⟨S8x256x16x64, .f32⟩
  | .hbm, ⟨53, _⟩ => ⟨S256, .i32⟩
  | .hbm, ⟨54, _⟩ => ⟨S256x1, .i32⟩
  | .hbm, ⟨55, _⟩ => ⟨S256, .i32⟩
  | .hbm, ⟨56, _⟩ => ⟨S1x256, .i32⟩
  | .hbm, ⟨57, _⟩ => ⟨S256x256, .i32⟩
  | .hbm, ⟨58, _⟩ => ⟨S256x256, .i32⟩
  | .hbm, ⟨59, _⟩ => ⟨S256x256, .i32⟩
  | .hbm, ⟨60, _⟩ => ⟨S256x256, .i32⟩
  | .hbm, ⟨61, _⟩ => ⟨S_, .i32⟩
  | .hbm, ⟨62, _⟩ => ⟨S256x256, .i32⟩
  | .hbm, ⟨63, _⟩ => ⟨S256x256, .i1⟩
  | .hbm, ⟨64, _⟩ => ⟨S8x16x256x256, .f32⟩
  | .hbm, ⟨65, _⟩ => ⟨S_, .f32⟩
  | .hbm, ⟨66, _⟩ => ⟨S8x16x256x256, .f32⟩
  | .hbm, ⟨67, _⟩ => ⟨S8x16x256x256, .f32⟩
  | .hbm, ⟨68, _⟩ => ⟨S1x1x256x256, .i1⟩
  | .hbm, ⟨69, _⟩ => ⟨S_, .f32⟩
  | .hbm, ⟨70, _⟩ => ⟨S_, .f32⟩
  | .hbm, ⟨71, _⟩ => ⟨S8x16x256x256, .i1⟩
  | .hbm, ⟨72, _⟩ => ⟨S8x16x256x256, .f32⟩
  | .hbm, ⟨73, _⟩ => ⟨S8x16x256x256, .f32⟩
  | .hbm, ⟨74, _⟩ => ⟨S_, .f32⟩
  | .hbm, ⟨75, _⟩ => ⟨S8x16x256, .f32⟩
  | .hbm, ⟨76, _⟩ => ⟨S8x16x256x1, .f32⟩
  | .hbm, ⟨77, _⟩ => ⟨S8x16x256x256, .f32⟩
  | .hbm, ⟨78, _⟩ => ⟨S8x16x256x256, .f32⟩
  | .hbm, ⟨79, _⟩ => ⟨S8x16x256x256, .f32⟩
  | .hbm, ⟨80, _⟩ => ⟨S_, .i1⟩
  | .hbm, ⟨81, _⟩ => ⟨S256, .i1⟩
  | .hbm, ⟨82, _⟩ => ⟨S1x1x256x1, .i1⟩
  | .hbm, ⟨83, _⟩ => ⟨S_, .f32⟩
  | .hbm, ⟨84, _⟩ => ⟨S8x16x256, .f32⟩
  | .hbm, ⟨85, _⟩ => ⟨S8x16x256x1, .f32⟩
  | .hbm, ⟨86, _⟩ => ⟨S_, .f32⟩
  | .hbm, ⟨87, _⟩ => ⟨S_, .f32⟩
  | .hbm, ⟨88, _⟩ => ⟨S8x16x256x1, .i1⟩
  | .hbm, ⟨89, _⟩ => ⟨S8x16x256x1, .f32⟩
  | .hbm, ⟨90, _⟩ => ⟨S8x16x256x1, .f32⟩
  | .hbm, ⟨91, _⟩ => ⟨S8x16x256x256, .f32⟩
  | .hbm, ⟨92, _⟩ => ⟨S8x16x256x256, .f32⟩
  | .hbm, ⟨93, _⟩ => ⟨S1x1x256x1, .i1⟩
  | .hbm, ⟨94, _⟩ => ⟨S_, .f32⟩
  | .hbm, ⟨95, _⟩ => ⟨S_, .f32⟩
  | .hbm, ⟨96, _⟩ => ⟨S8x16x256x256, .i1⟩
  | .hbm, ⟨97, _⟩ => ⟨S8x16x256x256, .f32⟩
  | .hbm, ⟨98, _⟩ => ⟨S8x16x256x256, .f32⟩
  | .hbm, ⟨99, _⟩ => ⟨S8x16x64x256, .f32⟩
  | .hbm, ⟨100, _⟩ => ⟨S8x256x16x64, .f32⟩
  | .hbm, ⟨101, _⟩ => ⟨S8x256x1024, .f32⟩
  | .hbm, ⟨102, _⟩ => ⟨S8x256x512, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_cst_6 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_cst_8 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_10 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_v42 : Ref sig .tc := ⟨.hbm, 73, rfl⟩
abbrev main_cst_11 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_12 : Ref sig .tc := ⟨.hbm, 80, rfl⟩
abbrev main_v48 : Ref sig .tc := ⟨.hbm, 81, rfl⟩
abbrev main_v49 : Ref sig .tc := ⟨.hbm, 82, rfl⟩
abbrev main_cst_13 : Ref sig .tc := ⟨.hbm, 83, rfl⟩
abbrev main_v50 : Ref sig .tc := ⟨.hbm, 84, rfl⟩
abbrev main_v51 : Ref sig .tc := ⟨.hbm, 85, rfl⟩
abbrev main_cst_14 : Ref sig .tc := ⟨.hbm, 86, rfl⟩
abbrev main_call5_v0 : Ref sig .tc := ⟨.hbm, 87, rfl⟩
abbrev main_call5_v1 : Ref sig .tc := ⟨.hbm, 88, rfl⟩
abbrev main_call5_v2 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_15 : Ref sig .tc := ⟨.hbm, 94, rfl⟩
abbrev main_call6_v0 : Ref sig .tc := ⟨.hbm, 95, rfl⟩
abbrev main_call6_v1 : Ref sig .tc := ⟨.hbm, 96, rfl⟩
abbrev main_call6_v2 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩

abbrev nD : Nat := 1
abbrev τ : Topo := Topo.v7x

variable {F : FTy → Type} [FloatOps F]
-- ==== Proof.Protocol.lean ====
/- THE PROTOCOL of the kernel's exchange, device by device.

   Per device c, with `pr k c` the device k+1 places ahead (k = 0, 1, 2):

   * the barrier semaphore (one, regular). c signals one unit on the barrier of pr 0 c, pr 1 c, pr 2 c, in that order,
     then waits for three units on its own. The unit c pays on pr k c hands over c's three landing slots numbered 2−k
     (one per kind of array), which is where pr k c will copy to, and that c's three landing cells of that number are
     at their first round.
   * nine landing cells (three kinds, three slots). The cell of kind a and slot j on c is credited by the one copy that
     pr (2−j) c addresses to it; c waits for that copy's bytes. The landing hands the slot back, holding the sender's
     quantised query weights (kind 0), its quantised output weights (kind 1), or its two rows of scales (kind 2).
   * nine departure cells (three kinds, three peers). The cell of kind a and peer j on c is credited by c's own copy to
     slot j of pr j c; c waits for it at the end. The departure hands back the share of the source array lent to that copy.

   The copies leave in the order j = 0, 1, 2, within j kinds 2, 0, 1. Each cell has one round. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Rounds
public import Idealize.ShloMosaic.Lib.Tactic
public import Idealize.ShloMosaic.Lib.Pipeline.RegionTalk
public import Idealize.ShloMosaic.Lib.Pointwise.Index

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## Devices -/

/-- The device k+1 places ahead of c. -/
def pr (k : Fin 3) (c : Dev nD) : Dev nD := ⟨(c.val + k.val + 1) % 4, Nat.mod_lt _ (by decide)⟩
/-- The slot that faces slot k: k+1 places ahead is 3−k places behind. -/
abbrev rv (k : Fin 3) : Fin 3 := Fin.rev k
theorem pr_rv (k : Fin 3) (c : Dev nD) : pr (rv k) (pr k c) = c := by revert k c; decide
theorem pr_rv' (k : Fin 3) (c : Dev nD) : pr k (pr (rv k) c) = c := by revert k c; decide
theorem pr_inj (k : Fin 3) : Function.Injective (pr k) := fun c d h => by rw [← pr_rv k c, h, pr_rv]
/-- Going k+1 places ahead permutes the devices. -/
def ahead (k : Fin 3) : Dev nD ≃ Dev nD := ⟨pr k, pr (rv k), pr_rv k, pr_rv' k⟩

theorem dev1 (c : Dev nD) : (⟨k0_dev1 c, k0_dev1_lt c⟩ : Dev nD) = pr 0 c := by revert c; decide
theorem dev2 (c : Dev nD) : (⟨k0_dev2 c, k0_dev2_lt c⟩ : Dev nD) = pr 1 c := by revert c; decide
theorem dev3 (c : Dev nD) : (⟨k0_dev3 c, k0_dev3_lt c⟩ : Dev nD) = pr 2 c := by revert c; decide
theorem dev4 (c : Dev nD) : (⟨k0_dev4 c, k0_dev4_lt c⟩ : Dev nD) = pr 0 c := by revert c; decide
theorem dev5 (c : Dev nD) : (⟨k0_dev5 c, k0_dev5_lt c⟩ : Dev nD) = pr 0 c := by revert c; decide
theorem dev6 (c : Dev nD) : (⟨k0_dev6 c, k0_dev6_lt c⟩ : Dev nD) = pr 0 c := by revert c; decide
theorem dev7 (c : Dev nD) : (⟨k0_dev7 c, k0_dev7_lt c⟩ : Dev nD) = pr 1 c := by revert c; decide
theorem dev8 (c : Dev nD) : (⟨k0_dev8 c, k0_dev8_lt c⟩ : Dev nD) = pr 1 c := by revert c; decide
theorem dev9 (c : Dev nD) : (⟨k0_dev9 c, k0_dev9_lt c⟩ : Dev nD) = pr 1 c := by revert c; decide
theorem dev10 (c : Dev nD) : (⟨k0_dev10 c, k0_dev10_lt c⟩ : Dev nD) = pr 2 c := by revert c; decide
theorem dev11 (c : Dev nD) : (⟨k0_dev11 c, k0_dev11_lt c⟩ : Dev nD) = pr 2 c := by revert c; decide
theorem dev12 (c : Dev nD) : (⟨k0_dev12 c, k0_dev12_lt c⟩ : Dev nD) = pr 2 c := by revert c; decide

/-! ## Semaphores and cells -/

/-- The departure semaphore of kind a (0: query weights, 1: output weights, 2: scales) to peer j. -/
def ss (a j : Fin 3) : DmaSem sig := ⟨6 + 6 * a.val + j.val, by have := a.isLt; have := j.isLt; show _ < 24; omega⟩
/-- The landing semaphore of kind a for slot j. -/
def rs (a j : Fin 3) : DmaSem sig := ⟨9 + 6 * a.val + j.val, by have := a.isLt; have := j.isLt; show _ < 24; omega⟩
/-- The kind, and the slot, a transfer semaphore's number says. -/
def kindOf (s : DmaSem sig) : Fin 3 := ⟨(s.val - 6) / 6 % 3, Nat.mod_lt _ (by decide)⟩
def slotOf (s : DmaSem sig) : Fin 3 := ⟨s.val % 3, Nat.mod_lt _ (by decide)⟩
/-- Whether it is a landing semaphore. -/
def lands (s : DmaSem sig) : Prop := 3 ≤ s.val % 6
instance (s : DmaSem sig) : Decidable (lands s) := inferInstanceAs (Decidable (3 ≤ s.val % 6))
theorem kind_ss (a j : Fin 3) : kindOf (ss a j) = a := by revert a j; decide
theorem slot_ss (a j : Fin 3) : slotOf (ss a j) = j := by revert a j; decide
theorem kind_rs (a j : Fin 3) : kindOf (rs a j) = a := by revert a j; decide
theorem slot_rs (a j : Fin 3) : slotOf (rs a j) = j := by revert a j; decide
theorem lands_rs (a j : Fin 3) : lands (rs a j) := by revert a j; decide
theorem not_lands_ss (a j : Fin 3) : ¬ lands (ss a j) := by revert a j; decide
theorem own_ss (a j : Fin 3) : 6 ≤ (ss a j).val := by revert a j; decide
theorem own_rs (a j : Fin 3) : 6 ≤ (rs a j).val := by revert a j; decide

abbrev bar (c : Dev nD) : GSem nD τ sig := ((c : Thread nD τ), .reg barrier0)
abbrev snd (a j : Fin 3) (c : Dev nD) : GSem nD τ sig := ((c : Thread nD τ), .dma (ss a j))
abbrev rcv (a j : Fin 3) (c : Dev nD) : GSem nD τ sig := ((c : Thread nD τ), .dma (rs a j))

/-! ## Memrefs -/

theorem inbQ (j : Fin 3) : ∀ a, (![j.val, 0, 0] : Fin 3 → Nat) a + S1x512x256.size a ≤ S3x512x256.size a := by revert j; decide
theorem inbO (j : Fin 3) : ∀ a, (![j.val, 0, 0] : Fin 3 → Nat) a + S1x256x512.size a ≤ S3x256x512.size a := by revert j; decide
theorem inbS (j : Fin 3) : ∀ a, (![j.val, 0, 0] : Fin 3 → Nat) a + S1x2x256.size a ≤ S3x2x256.size a := by revert j; decide

abbrev xbM : Memref sig .tc .vmem S512x512 .bf16 := Memref.whole cc0_scratch0
abbrev wqM : Memref sig .tc .vmem S512x256 .i8 := Memref.whole cc0_scratch1
abbrev woM : Memref sig .tc .vmem S256x512 .i8 := Memref.whole cc0_scratch2
abbrev scM : Memref sig .tc .vmem S2x256 .f32 := Memref.whole cc0_scratch3
abbrev ctM : Memref sig .tc .vmem S512x256 .bf16 := Memref.whole cc0_scratch7
/-- Landing slot j of each kind. -/
def qSlot (j : Fin 3) : Memref sig .tc .vmem S512x256 .i8 :=
  ((Memref.whole cc0_scratch4).slice (Rect.unit (s := S3x512x256) ![j.val, 0, 0] S1x512x256.size (inbQ j)) (fun _ => rfl)).squeeze S512x256 squeezes_S1x512x256_S512x256
def oSlot (j : Fin 3) : Memref sig .tc .vmem S256x512 .i8 :=
  ((Memref.whole cc0_scratch5).slice (Rect.unit (s := S3x256x512) ![j.val, 0, 0] S1x256x512.size (inbO j)) (fun _ => rfl)).squeeze S256x512 squeezes_S1x256x512_S256x512
def sSlot (j : Fin 3) : Memref sig .tc .vmem S2x256 .f32 :=
  ((Memref.whole cc0_scratch6).slice (Rect.unit (s := S3x2x256) ![j.val, 0, 0] S1x2x256.size (inbS j)) (fun _ => rfl)).squeeze S2x256 squeezes_S1x2x256_S2x256

/-! ## The algebra -/

abbrev UU : Type := URounds (GSem nD τ sig) Unit × URounds (GSem nD τ sig) (Fin 3)

local notation "𝕄" => MT nD τ sig Unit (Elt F) ℕ UU ℕ

abbrev EP : Emb (URounds (GSem nD τ sig) Unit) (MT nD τ sig Unit (Elt F) ℕ UU ℕ) := embL
abbrev ER : Emb (URounds (GSem nD τ sig) (Fin 3)) (MT nD τ sig Unit (Elt F) ℕ UU ℕ) := embR

/-! ## Contents -/

variable (wq : Dev nD → Vec F S512x256 .f32) (wo : Dev nD → Vec F S256x512 .f32)

/-- Device d's quantised weights, and its two rows of scales. -/
def qA (d : Dev nD) : Vec F S512x256 .i8 := k0_pay3 (wq d)
def oA (d : Dev nD) : Vec F S256x512 .i8 := k0_pay6 (wo d)
def sA (d : Dev nD) : Vec F S2x256 .f32 := fun i =>
  if (i 0).val = 0 then k0_pay7 (wq d) (ix2 (0 : Fin 1) (i 1 : Fin 256)) else k0_pay8 (k0_pay5 (wo d)) (ix2 (0 : Fin 1) (i 1 : Fin 256))

/-- An array repeated along a new leading axis. -/
def up {n a b : Nat} {e : EltTy} (X : Vec F ⟨2, ![a, b]⟩ e) : Vec F ⟨3, ![n, a, b]⟩ e := fun i => X (ix2 (i 1 : Fin a) (i 2 : Fin b))

/-- Device c's landing slots at contents f (of the whole landing array). -/
def qPts (j : Fin 3) (c : Dev nD) (f : Vec F S3x512x256 .i8) : sProp 𝕄 :=
  (qSlot j).view.loc (c : Thread nD τ) ↦[(qSlot j).view.set]{fullShare} f
def oPts (j : Fin 3) (c : Dev nD) (f : Vec F S3x256x512 .i8) : sProp 𝕄 :=
  (oSlot j).view.loc (c : Thread nD τ) ↦[(oSlot j).view.set]{fullShare} f
def sPts (j : Fin 3) (c : Dev nD) (f : Vec F S3x2x256 .f32) : sProp 𝕄 :=
  (sSlot j).view.loc (c : Thread nD τ) ↦[(sSlot j).view.set]{fullShare} f

/-- The share of a source array lent to the copy to peer j, and the share kept. -/
def lend : Fin 3 → PosShare TreeShare
  | 0 => fullShare.left
  | 1 => fullShare.right.left
  | 2 => fullShare.right.right.left
def keep : PosShare TreeShare := fullShare.right.right.right

/-! ## The schedule -/

/-- What device `pr (rv k) c`, paying unit k on c's barrier, hands over: its slots number `rv k`, and that their cells are at round 0. -/
def barPay (k : Fin 3) (c : Dev nD) : sProp 𝕄 :=
  iprop((∃ f, sPts (rv k) (pr (rv k) c) f) ∗ (∃ f, qPts (rv k) (pr (rv k) c) f) ∗ (∃ f, oPts (rv k) (pr (rv k) c) f)
    ∗ reached ER (rcv 2 (rv k) (pr (rv k) c)) 0 ∗ reached ER (rcv 0 (rv k) (pr (rv k) c)) 0 ∗ reached ER (rcv 1 (rv k) (pr (rv k) c)) 0)
/-- What a landing on slot j hands back: the slot, holding the array of the device `rv j`+1 places ahead. -/
def rcvPay (a j : Fin 3) (c : Dev nD) : sProp 𝕄 := match a with
  | 0 => qPts j c (up (qA wq (pr (rv j) c)))
  | 1 => oPts j c (up (oA wo (pr (rv j) c)))
  | 2 => sPts j c (up (sA wq wo (pr (rv j) c)))
/-- What a departure hands back: the lent share of the source. -/
def sndPay (a j : Fin 3) (c : Dev nD) : sProp 𝕄 := match a with
  | 0 => (wqM : Memref sig .tc .vmem S512x256 .i8).view.loc (c : Thread nD τ) ↦[(wqM : Memref sig .tc .vmem S512x256 .i8).view.set]{lend j} qA wq c
  | 1 => (woM : Memref sig .tc .vmem S256x512 .i8).view.loc (c : Thread nD τ) ↦[(woM : Memref sig .tc .vmem S256x512 .i8).view.set]{lend j} oA wo c
  | 2 => (scM : Memref sig .tc .vmem S2x256 .f32).view.loc (c : Thread nD τ) ↦[(scM : Memref sig .tc .vmem S2x256 .f32).view.set]{lend j} sA wq wo c

/-- The units of a copy of kind a. -/
def N (a : Fin 3) : ℕ := match a with
  | 0 => (qSlot 0).view.dmaCredit
  | 1 => (oSlot 0).view.dmaCredit
  | 2 => (sSlot 0).view.dmaCredit
theorem N_pos (a : Fin 3) : 0 < N a := by
  match a with
  | 0 => exact View.dmaCredit_pos _ (by decide)
  | 1 => exact View.dmaCredit_pos _ (by decide)
  | 2 => exact View.dmaCredit_pos _ (by decide)

/-- One round: three units on every barrier, one duty on every landing and departure cell. -/
def rd : Rounds.Schedule (GSem nD τ sig) (Fin 3) 𝕄 where
  duties g r := if r = 0 ∧ g.1.2 = .tc then (match g.2 with | .reg _ => Finset.univ | .dma s => if 6 ≤ s.val then {0} else ∅) else ∅
  unitless _ := False
  amount g _ _ := match g.2 with | .reg _ => 1 | .dma s => N (kindOf s)
  payload g _ d := match g.2 with
    | .reg _ => barPay d g.1.1
    | .dma s => if lands s then rcvPay wq wo (kindOf s) (slotOf s) g.1.1 else sndPay wq wo (kindOf s) (slotOf s) g.1.1
  amount_pos g _ _ _ := by
    match g.2 with
    | .reg _ => exact Nat.one_pos
    | .dma s => exact N_pos _

instance rd_payload_storable (g : GSem nD τ sig) (r : ℕ) (d : Fin 3) :
    BI.Storable (upEmb : UEmb _ 𝕄) ((rd wq wo).payload g r d) := by
  show BI.Storable upEmb (match g.2 with
    | .reg _ => barPay d g.1.1
    | .dma s => if lands s then rcvPay wq wo (kindOf s) (slotOf s) g.1.1 else sndPay wq wo (kindOf s) (slotOf s) g.1.1)
  unfold barPay rcvPay sndPay sPts qPts oPts sSlot qSlot oSlot
  (repeat' split) <;> infer_instance

section Tables

variable (c : Dev nD) (a j : Fin 3)

theorem duties_bar : (rd wq wo).duties (bar c) 0 = Finset.univ := by dsimp only [rd]; rw [if_pos ⟨rfl, rfl⟩]
theorem duties_snd : (rd wq wo).duties (snd a j c) 0 = {0} := by
  dsimp only [rd]; rw [if_pos ⟨rfl, rfl⟩]; exact if_pos (own_ss a j)
theorem duties_rcv : (rd wq wo).duties (rcv a j c) 0 = {0} := by
  dsimp only [rd]; rw [if_pos ⟨rfl, rfl⟩]; exact if_pos (own_rs a j)
theorem duties_later (g : GSem nD τ sig) : ∀ r, 1 ≤ r → (rd wq wo).duties g r = ∅ :=
  fun r hr => by dsimp only [rd]; rw [if_neg (fun h => by omega)]

theorem amount_bar (d : Fin 3) : (rd wq wo).amount (bar c) 0 d = 1 := rfl
theorem amount_snd (d : Fin 3) : (rd wq wo).amount (snd a j c) 0 d = N a := by dsimp only [rd]; rw [kind_ss]
theorem amount_rcv (d : Fin 3) : (rd wq wo).amount (rcv a j c) 0 d = N a := by dsimp only [rd]; rw [kind_rs]

theorem expect_bar : (rd wq wo).expect (bar c) 0 = 3 := by
  unfold Schedule.expect Schedule.amountOf; rw [duties_bar]; rfl
theorem expect_snd : (rd wq wo).expect (snd a j c) 0 = N a := by
  unfold Schedule.expect Schedule.amountOf; rw [duties_snd, Finset.sum_singleton, amount_snd]
theorem expect_rcv : (rd wq wo).expect (rcv a j c) 0 = N a := by
  unfold Schedule.expect Schedule.amountOf; rw [duties_rcv, Finset.sum_singleton, amount_rcv]

theorem payload_bar (k : Fin 3) : (rd wq wo).payload (bar c) 0 k = barPay k c := rfl
theorem payload_snd (d : Fin 3) : (rd wq wo).payload (snd a j c) 0 d = sndPay wq wo a j c := by
  dsimp only [rd]; rw [if_neg (not_lands_ss a j), kind_ss, slot_ss]
theorem payload_rcv (d : Fin 3) : (rd wq wo).payload (rcv a j c) 0 d = rcvPay wq wo a j c := by
  dsimp only [rd]; rw [if_pos (lands_rs a j), kind_rs, slot_rs]

theorem bigSep3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

theorem rest_bar : bigSep ((rd wq wo).duties (bar c) 0 \ ∅) (fun d => (rd wq wo).payload (bar c) 0 d)
    = iprop(barPay 0 c ∗ barPay 1 c ∗ barPay 2 c) := by
  rw [Finset.sdiff_empty, duties_bar, bigSep3]; rfl
theorem rest_snd : bigSep ((rd wq wo).duties (snd a j c) 0 \ ∅) (fun d => (rd wq wo).payload (snd a j c) 0 d) = sndPay wq wo a j c := by
  rw [Finset.sdiff_empty, duties_snd, bigSep_singleton, payload_snd]
theorem rest_rcv : bigSep ((rd wq wo).duties (rcv a j c) 0 \ ∅) (fun d => (rd wq wo).payload (rcv a j c) 0 d) = rcvPay wq wo a j c := by
  rw [Finset.sdiff_empty, duties_rcv, bigSep_singleton, payload_rcv]

end Tables

/-! ## What each core owes at launch; the levels -/

/-- What device c's nine copies will credit, in the order they leave. -/
def owR (c : Dev nD) : CellTallies nD τ sig Unit :=
  ∑ j : Fin 3, (tallyAt (rcv 2 j (pr j c)) () (N 2) + tallyAt (rcv 0 j (pr j c)) () (N 0) + tallyAt (rcv 1 j (pr j c)) () (N 1))
/-- And what its three signals will. -/
def owB (c : Dev nD) : CellTallies nD τ sig Unit := ∑ k : Fin 3, tallyAt (bar (pr k c)) () 1
def O₀ (c : Dev nD) : CellTallies nD τ sig Unit := owR c + owB c

def L (g : GSem nD τ sig) : Finset Unit := if g.1.2 = .tc then {()} else ∅
/-- Barriers at 1, landing cells at 2, everything else at 0. -/
def lv (g : GSem nD τ sig) (_ : Unit) : ℕ := match g.2 with | .reg _ => 1 | .dma s => if 6 ≤ s.val ∧ lands s then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_rcv (a j : Fin 3) (c : Dev nD) : lv (rcv a j c) () = 2 := by dsimp only [lv]; exact if_pos ⟨own_rs a j, lands_rs a j⟩
theorem lv_bar (c : Dev nD) : lv (bar c) () = 1 := rfl

theorem tallyAt_pos {g g' : GSem nD τ sig} {u : Unit} {n : ℕ} (h : 0 < (tallyAt g () n : CellTallies nD τ sig Unit) g' u) : g' = g := by
  rw [tallyAt_apply] at h
  by_contra hn
  rw [if_neg (fun h => hn h.1)] at h
  exact Nat.lt_irrefl 0 h

theorem owR_pos {c : Dev nD} {g : GSem nD τ sig} {u : Unit} (h : 0 < owR c g u) : ∃ a j, g = rcv a j (pr j c) := by
  unfold owR at h
  rw [Finset.sum_apply, Finsupp.finset_sum_apply] at h
  obtain ⟨j, -, hj⟩ := Finset.exists_ne_zero_of_sum_ne_zero (Nat.pos_iff_ne_zero.mp h)
  rw [Pi.add_apply, Pi.add_apply, Finsupp.add_apply, Finsupp.add_apply] at hj
  rcases Nat.add_pos_iff_pos_or_pos.mp (Nat.pos_of_ne_zero hj) with h | h
  · rcases Nat.add_pos_iff_pos_or_pos.mp h with h | h
    · exact ⟨2, j, tallyAt_pos h⟩
    · exact ⟨0, j, tallyAt_pos h⟩
  · exact ⟨1, j, tallyAt_pos h⟩
theorem owB_pos {c : Dev nD} {g : GSem nD τ sig} {u : Unit} (h : 0 < owB c g u) : ∃ k, g = bar (pr k c) := by
  unfold owB at h
  rw [Finset.sum_apply, Finsupp.finset_sum_apply] at h
  obtain ⟨j, -, hj⟩ := Finset.exists_ne_zero_of_sum_ne_zero (Nat.pos_iff_ne_zero.mp h)
  exact ⟨j, tallyAt_pos (Nat.pos_of_ne_zero hj)⟩
theorem O₀_pos {c : Dev nD} {g : GSem nD τ sig} {u : Unit} (h : 0 < O₀ c g u) : (∃ a j, g = rcv a j (pr j c)) ∨ ∃ k, g = bar (pr k c) := by
  unfold O₀ at h
  rw [Pi.add_apply, Finsupp.add_apply] at h
  rcases Nat.add_pos_iff_pos_or_pos.mp h with h | h
  · exact .inl (owR_pos h)
  · exact .inr (owB_pos h)

/-- The barrier wait is below everything still owed at it. -/
theorem mayWait_bar (c : Dev nD) : (levAts L lv : sProp 𝕄) ⊢ MayWait (c : Thread nD τ) (.reg barrier0) () (owR c) :=
  MayOwe.of_cut (L := L) (lev := lv) 1 (fun p hp => by rw [Finset.mem_singleton.mp hp, L_tc]; exact Finset.mem_singleton_self _)
    (fun g u hg => by obtain ⟨a, j, rfl⟩ := owR_pos hg; rw [L_tc]; exact Finset.mem_singleton_self _)
    (fun p hp => by rw [Finset.mem_singleton.mp hp]; exact le_of_eq (lv_bar c))
    (fun g u hg => by obtain ⟨a, j, rfl⟩ := owR_pos hg; rw [show lv (rcv a j (pr j c)) u = 2 from lv_rcv a j (pr j c)]; decide)

end Cert.KernelIdeal.Talk

end
-- ==== Proof.Talk.lean ====
/- ONE STEP AT A TIME of the exchange, for any device c and any slot j: a signal, the wait for three of them, a copy of
   each kind. What each takes and leaves is Protocol.lean's schedule. -/
module

public import proofs.«01_k».proof.Proof.Protocol
public import Idealize.ShloMosaic.Lib.ValueLayout
public import Idealize.ShloMosaic.Lib.VecWindow
public import Idealize.ShloMosaic.Lib.Pipeline.Value
public import Idealize.ShloMosaic.Lib.Pipeline.TableIdle

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

/-- A memref's own elements on device c at contents f. -/
abbrev at' {sh : Shape} {e : EltTy} (M : Memref sig .tc .vmem sh e) (q : PosShare TreeShare) (c : Dev nD) (f : M.view.ty.Contents (Elt F)) : sProp 𝕄 :=
  M.view.loc (c : Thread nD τ) ↦[M.view.set]{q} f

variable (wq : Dev nD → Vec F S512x256 .f32) (wo : Dev nD → Vec F S256x512 .f32)

/-! ## Contents of a slot -/

/-- A slot of the repeated array reads the array. -/
theorem read_qSlot (j : Fin 3) (X : Vec F S512x256 .i8) : (qSlot j).view.read (Elt F) (up X) = X := by
  refine (Memref.read_squeeze_slice _ _ _ squeezes_S1x512x256_S512x256 squeezes_S1x512x256_S512x256.numel_eq _).trans ?_
  funext i
  rw [ValueIdx.eq_ix2 (n0 := 512) (n1 := 256) i]
  refine (ValueIdx.shapeCast_1ab_ab_apply (a := 512) (b := 256) _ _ _ _).trans ?_
  show X (ix2 _ _) = X (ix2 _ _)
  congr 2 <;> exact Fin.ext (by show 0 + 1 * _ = _; rw [Nat.zero_add, Nat.one_mul])
theorem read_oSlot (j : Fin 3) (X : Vec F S256x512 .i8) : (oSlot j).view.read (Elt F) (up X) = X := by
  refine (Memref.read_squeeze_slice _ _ _ squeezes_S1x256x512_S256x512 squeezes_S1x256x512_S256x512.numel_eq _).trans ?_
  funext i
  rw [ValueIdx.eq_ix2 (n0 := 256) (n1 := 512) i]
  refine (ValueIdx.shapeCast_1ab_ab_apply (a := 256) (b := 512) _ _ _ _).trans ?_
  show X (ix2 _ _) = X (ix2 _ _)
  congr 2 <;> exact Fin.ext (by show 0 + 1 * _ = _; rw [Nat.zero_add, Nat.one_mul])
theorem read_sSlot (j : Fin 3) (X : Vec F S2x256 .f32) : (sSlot j).view.read (Elt F) (up X) = X := by
  refine (Memref.read_squeeze_slice _ _ _ squeezes_S1x2x256_S2x256 squeezes_S1x2x256_S2x256.numel_eq _).trans ?_
  funext i
  rw [ValueIdx.eq_ix2 (n0 := 2) (n1 := 256) i]
  refine (ValueIdx.shapeCast_1ab_ab_apply (a := 2) (b := 256) _ _ _ _).trans ?_
  show X (ix2 _ _) = X (ix2 _ _)
  congr 2 <;> exact Fin.ext (by show 0 + 1 * _ = _; rw [Nat.zero_add, Nat.one_mul])

/-- Contents of a memref's own elements are known by what they read. -/
theorem pts_of_read {sh : Shape} {e : EltTy} (M : Memref sig .tc .vmem sh e) (q : PosShare TreeShare) (c : Dev nD)
    (f g : M.view.ty.Contents (Elt F)) (h : M.view.read (Elt F) f = M.view.read (Elt F) g) :
    (M.view.loc (c : Thread nD τ) ↦[M.view.set]{q} f : sProp 𝕄) = (M.view.loc (c : Thread nD τ) ↦[M.view.set]{q} g) :=
  pointsTo_congr fun i hi => by
    obtain ⟨x, -, rfl⟩ := Finset.mem_map.mp hi
    have := congrFun h x
    rw [View.read_apply, View.read_apply] at this
    exact (cast_inj _).mp this

/-- A slot landed on holds the source. -/
theorem landed_q (j : Fin 3) (d c : Dev nD) (fd : Vec F S3x512x256 .i8) (X : Vec F S512x256 .i8) :
    ((qSlot j).view.loc (d : Thread nD τ) ↦[(qSlot j).view.set]{fullShare} (qSlot j).view.write (Elt F) fd ((wqM : Memref sig .tc .vmem S512x256 .i8).view.read (Elt F) X) Finset.univ : sProp 𝕄)
      = qPts j d (up X) :=
  pts_of_read (qSlot j) _ _ _ _ ((View.read_write_univ (v := (qSlot j).view) fd _).trans (read_qSlot j X).symm)
theorem landed_o (j : Fin 3) (d c : Dev nD) (fd : Vec F S3x256x512 .i8) (X : Vec F S256x512 .i8) :
    ((oSlot j).view.loc (d : Thread nD τ) ↦[(oSlot j).view.set]{fullShare} (oSlot j).view.write (Elt F) fd ((woM : Memref sig .tc .vmem S256x512 .i8).view.read (Elt F) X) Finset.univ : sProp 𝕄)
      = oPts j d (up X) :=
  pts_of_read (oSlot j) _ _ _ _ ((View.read_write_univ (v := (oSlot j).view) fd _).trans (read_oSlot j X).symm)
theorem landed_s (j : Fin 3) (d c : Dev nD) (fd : Vec F S3x2x256 .f32) (X : Vec F S2x256 .f32) :
    ((sSlot j).view.loc (d : Thread nD τ) ↦[(sSlot j).view.set]{fullShare} (sSlot j).view.write (Elt F) fd ((scM : Memref sig .tc .vmem S2x256 .f32).view.read (Elt F) X) Finset.univ : sProp 𝕄)
      = sPts j d (up X) :=
  pts_of_read (sSlot j) _ _ _ _ ((View.read_write_univ (v := (sSlot j).view) fd _).trans (read_sSlot j X).symm)

/-! ## Steps -/

section Steps

variable (K : GSem nD τ sig → ℕ) (c : Dev nD)

/-- The cell's invariant, at its name. -/
abbrev cI (g : GSem nD τ sig) : sProp 𝕄 := cellInv ER (rd wq wo) (K g) g

/-- A signal on the barrier of the device k+1 places ahead. -/
theorem step_signal (k : Fin 3) {d : Dev nD} (hd : d = pr k c) {n : ℕ} (hn : n = 1) {W : Waits sig Unit} {O₁ : CellTallies nD τ sig Unit} (O : CellTallies nD τ sig Unit)
    (hO : O₁ = O + tallyAt (bar (pr k c)) () 1) {α : Type} (p : PUnit → Prog (TpuEff nD τ sig (Elt F) Λ₀ .tc) α) (Q : α → sProp 𝕄) :
    iprop(cI wq wo K (bar (pr k c)) ∗ owes (c : Thread nD τ) O₁ W ∗ dutyTok ER (bar (pr k c)) 0 k ∗ reached ER (bar (pr k c)) 0
        ∗ (∃ f, sPts (rv k) c f) ∗ (∃ f, qPts (rv k) c f) ∗ (∃ f, oPts (rv k) c f)
        ∗ reached ER (rcv 2 (rv k) c) 0 ∗ reached ER (rcv 0 (rv k) c) 0 ∗ reached ER (rcv 1 (rv k) c) 0)
      ⊢ iprop((owes (c : Thread nD τ) O W -∗ wp frame (wpE (defs₀ (F := F)) 𝒱₀ (c : Thread nD τ) none) Set.univ (p ⟨⟩) Q)
          -∗ wp frame (wpE (defs₀ (F := F)) 𝒱₀ (c : Thread nD τ) none) Set.univ (.op (.semSignal (d, Proc.tc) barrier0 n) p) Q) := by
  subst hd hn
  iintro ⟨#HI, HO, Ht, #Hr, Hs, Hq, Ho, #Hr2, #Hr0, #Hr1⟩
  iapply (Rounds.wp_signal 𝒱₀ ER (rd wq wo) (c : Thread nD τ) none (dst := (pr k c : Thread nD τ)) (sem := barrier0) (r := 0) (d := k) (κ := K (bar (pr k c)))
      (by rw [duties_bar]; exact Finset.mem_univ _) (amount_bar wq wo (pr k c) k) () O hO)
  isplitr; · iexact HI
  isplitl [HO]; · iexact HO
  isplitl [Ht]; · iexact Ht
  isplitl [Hs Hq Ho]
  · rw [payload_bar]; unfold barPay; rw [pr_rv]
    isplitl [Hs]; · iexact Hs
    isplitl [Hq]; · iexact Hq
    isplitl [Ho]; · iexact Ho
    isplitr; · iexact Hr2
    isplitr; · iexact Hr0
    iexact Hr1
  iexact Hr

/-- The wait for the three signals: the slots of the three other devices come with them. -/
theorem step_barrier {W : Waits sig Unit} {n : ℕ} (hn : n = 3) {α : Type} (p : PUnit → Prog (TpuEff nD τ sig (Elt F) Λ₀ .tc) α) (Q : α → sProp 𝕄) :
    iprop(cI wq wo K (bar c) ∗ cred (tallyAt (bar c) () 3) ∗ owes (c : Thread nD τ) (owR c) W ∗ levAts L lv ∗ atPos ER (bar c) 0 ∅ 0)
      ⊢ iprop(((owes (c : Thread nD τ) (owR c) (insert (SemLoc.reg barrier0, ()) W) ∗ atPos ER (bar c) 1 ∅ 0 ∗ barPay 0 c ∗ barPay 1 c ∗ barPay 2 c)
            -∗ wp frame (wpE (defs₀ (F := F)) 𝒱₀ (c : Thread nD τ) none) Set.univ (p ⟨⟩) Q)
          -∗ wp frame (wpE (defs₀ (F := F)) 𝒱₀ (c : Thread nD τ) none) Set.univ (.op (.semWait barrier0 n) p) Q) := by
  subst hn
  iintro ⟨#HI, Hc, HO, #Hlev, Hat⟩ Hk
  iapply (Rounds.wp_wait_rest_token 𝒱₀ ER (rd wq wo) (c : Thread nD τ) none (κ := K (bar c))
      (wpE_semWait_eq 𝒱₀ (c : Thread nD τ) none Set.univ) (Set.mem_univ _) () (O := owR c) (W := W) (R := 0) (m := 0) (T := ∅)
      ((Nat.zero_add 3).trans (expect_bar wq wo c).symm)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar wq wo c)) $$ Hpay
  iapply Hk
  isplitl [HO]; · iexact HO
  isplitl [Hat]; · iexact Hat
  iexact Hp

/-- The copy of the quantised query weights to slot j of the device j+1 places ahead. -/
theorem step_send_q (j : Fin 3) {d : Dev nD} (hd : d = pr j c) {sS sR : DmaSem sig} (hS : sS = ss 0 j) (hR : sR = rs 0 j)
    {M : Memref sig .tc .vmem S512x256 .i8} (hM : M = qSlot j) {W : Waits sig Unit} {O₁ : CellTallies nD τ sig Unit} (O : CellTallies nD τ sig Unit)
    (hO : O₁ = O + tallyAt (rcv 0 j (pr j c)) () (N 0)) {fd : Vec F S3x512x256 .i8} {hsc hsrc hdst hsem}
    {α : Type} (p : PUnit → Prog (TpuEff nD τ sig (Elt F) Λ₀ .tc) α) (Q : α → sProp 𝕄) :
    iprop(cI wq wo K (snd 0 j c) ∗ cI wq wo K (rcv 0 j (pr j c)) ∗ at' wqM (lend j) c (qA wq c) ∗ qPts j (pr j c) fd
        ∗ owes (c : Thread nD τ) O₁ W ∗ dutyTok ER (snd 0 j c) 0 0 ∗ reached ER (snd 0 j c) 0
        ∗ dutyTok ER (rcv 0 j (pr j c)) 0 0 ∗ reached ER (rcv 0 j (pr j c)) 0)
      ⊢ iprop(((cred (tallyAt (snd 0 j c) () (N 0)) ∗ owes (c : Thread nD τ) O W)
            -∗ wp frame (wpE (defs₀ (F := F)) 𝒱₀ (c : Thread nD τ) none) Set.univ (p ⟨⟩) Q)
          -∗ wp frame (wpE (defs₀ (F := F)) 𝒱₀ (c : Thread nD τ) none) Set.univ
            (.op (.enqueueDma wqM (.remote (Dev.tc d : Thread nD τ) M (.dma sS) hsc) (.dma sR) hsrc hdst hsem) p) Q) := by
  subst hd hS hR hM
  exact Rounds.wp_send_pointsTo 𝒱₀ ER (rd wq wo) (c : Thread nD τ) none (c' := (pr j c : Thread nD τ)) (src := wqM) (dst := qSlot j)
      (sS := .dma (ss 0 j)) (sem := .dma (rs 0 j)) (q := lend j) (fs := qA wq c) (κ₁ := K (snd 0 j c)) (κ₂ := K (rcv 0 j (pr j c)))
      (r₁ := 0) (r₂ := 0) (d₁ := 0) (d₂ := 0) (fd := fd)
      (by rw [duties_snd]; exact Finset.mem_singleton_self _) (by rw [duties_rcv]; exact Finset.mem_singleton_self _)
      () () (N 0) rfl (amount_snd wq wo c 0 j 0) (amount_rcv wq wo (pr j c) 0 j 0) O hO
      (by rw [payload_snd]; exact BI.Entails.refl _)
      (by rw [payload_rcv]; unfold rcvPay; rw [pr_rv, landed_q j _ c])

/-- The copy of the quantised output weights. -/
theorem step_send_o (j : Fin 3) {d : Dev nD} (hd : d = pr j c) {sS sR : DmaSem sig} (hS : sS = ss 1 j) (hR : sR = rs 1 j)
    {M : Memref sig .tc .vmem S256x512 .i8} (hM : M = oSlot j) {W : Waits sig Unit} {O₁ : CellTallies nD τ sig Unit} (O : CellTallies nD τ sig Unit)
    (hO : O₁ = O + tallyAt (rcv 1 j (pr j c)) () (N 1)) {fd : Vec F S3x256x512 .i8} {hsc hsrc hdst hsem}
    {α : Type} (p : PUnit → Prog (TpuEff nD τ sig (Elt F) Λ₀ .tc) α) (Q : α → sProp 𝕄) :
    iprop(cI wq wo K (snd 1 j c) ∗ cI wq wo K (rcv 1 j (pr j c)) ∗ at' woM (lend j) c (oA wo c) ∗ oPts j (pr j c) fd
        ∗ owes (c : Thread nD τ) O₁ W ∗ dutyTok ER (snd 1 j c) 0 0 ∗ reached ER (snd 1 j c) 0
        ∗ dutyTok ER (rcv 1 j (pr j c)) 0 0 ∗ reached ER (rcv 1 j (pr j c)) 0)
      ⊢ iprop(((cred (tallyAt (snd 1 j c) () (N 1)) ∗ owes (c : Thread nD τ) O W)
            -∗ wp frame (wpE (defs₀ (F := F)) 𝒱₀ (c : Thread nD τ) none) Set.univ (p ⟨⟩) Q)
          -∗ wp frame (wpE (defs₀ (F := F)) 𝒱₀ (c : Thread nD τ) none) Set.univ
            (.op (.enqueueDma woM (.remote (Dev.tc d : Thread nD τ) M (.dma sS) hsc) (.dma sR) hsrc hdst hsem) p) Q) := by
  subst hd hS hR hM
  exact Rounds.wp_send_pointsTo 𝒱₀ ER (rd wq wo) (c : Thread nD τ) none (c' := (pr j c : Thread nD τ)) (src := woM) (dst := oSlot j)
      (sS := .dma (ss 1 j)) (sem := .dma (rs 1 j)) (q := lend j) (fs := oA wo c) (κ₁ := K (snd 1 j c)) (κ₂ := K (rcv 1 j (pr j c)))
      (r₁ := 0) (r₂ := 0) (d₁ := 0) (d₂ := 0) (fd := fd)
      (by rw [duties_snd]; exact Finset.mem_singleton_self _) (by rw [duties_rcv]; exact Finset.mem_singleton_self _)
      () () (N 1) rfl (amount_snd wq wo c 1 j 0) (amount_rcv wq wo (pr j c) 1 j 0) O hO
      (by rw [payload_snd]; exact BI.Entails.refl _)
      (by rw [payload_rcv]; unfold rcvPay; rw [pr_rv, landed_o j _ c])

/-- The copy of the two rows of scales. -/
theorem step_send_s (j : Fin 3) {d : Dev nD} (hd : d = pr j c) {sS sR : DmaSem sig} (hS : sS = ss 2 j) (hR : sR = rs 2 j)
    {M : Memref sig .tc .vmem S2x256 .f32} (hM : M = sSlot j) {W : Waits sig Unit} {O₁ : CellTallies nD τ sig Unit} (O : CellTallies nD τ sig Unit)
    (hO : O₁ = O + tallyAt (rcv 2 j (pr j c)) () (N 2)) {fd : Vec F S3x2x256 .f32} {hsc hsrc hdst hsem}
    {α : Type} (p : PUnit → Prog (TpuEff nD τ sig (Elt F) Λ₀ .tc) α) (Q : α → sProp 𝕄) :
    iprop(cI wq wo K (snd 2 j c) ∗ cI wq wo K (rcv 2 j (pr j c)) ∗ at' scM (lend j) c (sA wq wo c) ∗ sPts j (pr j c) fd
        ∗ owes (c : Thread nD τ) O₁ W ∗ dutyTok ER (snd 2 j c) 0 0 ∗ reached ER (snd 2 j c) 0
        ∗ dutyTok ER (rcv 2 j (pr j c)) 0 0 ∗ reached ER (rcv 2 j (pr j c)) 0)
      ⊢ iprop(((cred (tallyAt (snd 2 j c) () (N 2)) ∗ owes (c : Thread nD τ) O W)
            -∗ wp frame (wpE (defs₀ (F := F)) 𝒱₀ (c : Thread nD τ) none) Set.univ (p ⟨⟩) Q)
          -∗ wp frame (wpE (defs₀ (F := F)) 𝒱₀ (c : Thread nD τ) none) Set.univ
            (.op (.enqueueDma scM (.remote (Dev.tc d : Thread nD τ) M (.dma sS) hsc) (.dma sR) hsrc hdst hsem) p) Q) := by
  subst hd hS hR hM
  exact Rounds.wp_send_pointsTo 𝒱₀ ER (rd wq wo) (c : Thread nD τ) none (c' := (pr j c : Thread nD τ)) (src := scM) (dst := sSlot j)
      (sS := .dma (ss 2 j)) (sem := .dma (rs 2 j)) (q := lend j) (fs := sA wq wo c) (κ₁ := K (snd 2 j c)) (κ₂ := K (rcv 2 j (pr j c)))
      (r₁ := 0) (r₂ := 0) (d₁ := 0) (d₂ := 0) (fd := fd)
      (by rw [duties_snd]; exact Finset.mem_singleton_self _) (by rw [duties_rcv]; exact Finset.mem_singleton_self _)
      () () (N 2) rfl (amount_snd wq wo c 2 j 0) (amount_rcv wq wo (pr j c) 2 j 0) O hO
      (by rw [payload_snd]; exact BI.Entails.refl _)
      (by rw [payload_rcv]; unfold rcvPay; rw [pr_rv, landed_s j _ c])

/-- The wait on a landing cell, owing nothing. -/
theorem step_landing (a j : Fin 3) {W : Waits sig Unit} {w : TpuEff nD τ sig (Elt F) Λ₀ .tc PUnit} {n : ℕ} (hn : n = N a)
    (hw : ∀ Q : PUnit → sProp 𝕄, wpE (defs₀ (F := F)) 𝒱₀ (c : Thread nD τ) none Set.univ w Q = waitSpec (c : Thread nD τ) Set.univ (.dma (rs a j)) n Q)
    {α : Type} (p : PUnit → Prog (TpuEff nD τ sig (Elt F) Λ₀ .tc) α) (Q : α → sProp 𝕄) :
    iprop(cI wq wo K (rcv a j c) ∗ cred (tallyAt (rcv a j c) () (N a)) ∗ owes (c : Thread nD τ) 0 W ∗ atPos ER (rcv a j c) 0 ∅ 0)
      ⊢ iprop(((owes (c : Thread nD τ) 0 (insert (SemLoc.dma (rs a j), ()) W) ∗ atPos ER (rcv a j c) 1 ∅ 0 ∗ rcvPay wq wo a j c)
            -∗ wp frame (wpE (defs₀ (F := F)) 𝒱₀ (c : Thread nD τ) none) Set.univ (p ⟨⟩) Q)
          -∗ wp frame (wpE (defs₀ (F := F)) 𝒱₀ (c : Thread nD τ) none) Set.univ (.op w p) Q) := by
  subst hn
  iintro ⟨#HI, Hc, HO, Hat⟩ Hk
  iapply (Rounds.wp_wait_rest_token 𝒱₀ ER (rd wq wo) (c : Thread nD τ) none (κ := K (rcv a j c))
      hw (Set.mem_univ _) () (O := 0) (W := W) (R := 0) (m := 0) (T := ∅)
      ((Nat.zero_add _).trans (expect_rcv wq wo c a j).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_rcv wq wo c a j)) $$ Hpay
  iapply Hk
  isplitl [HO]; · iexact HO
  isplitl [Hat]; · iexact Hat
  iexact Hp

/-- The wait on a departure cell, owing nothing. -/
theorem step_departure (a j : Fin 3) {W : Waits sig Unit} {w : TpuEff nD τ sig (Elt F) Λ₀ .tc PUnit} {n : ℕ} (hn : n = N a)
    (hw : ∀ Q : PUnit → sProp 𝕄, wpE (defs₀ (F := F)) 𝒱₀ (c : Thread nD τ) none Set.univ w Q = waitSpec (c : Thread nD τ) Set.univ (.dma (ss a j)) n Q)
    {α : Type} (p : PUnit → Prog (TpuEff nD τ sig (Elt F) Λ₀ .tc) α) (Q : α → sProp 𝕄) :
    iprop(cI wq wo K (snd a j c) ∗ cred (tallyAt (snd a j c) () (N a)) ∗ owes (c : Thread nD τ) 0 W ∗ atPos ER (snd a j c) 0 ∅ 0)
      ⊢ iprop(((owes (c : Thread nD τ) 0 (insert (SemLoc.dma (ss a j), ()) W) ∗ atPos ER (snd a j c) 1 ∅ 0 ∗ sndPay wq wo a j c)
            -∗ wp frame (wpE (defs₀ (F := F)) 𝒱₀ (c : Thread nD τ) none) Set.univ (p ⟨⟩) Q)
          -∗ wp frame (wpE (defs₀ (F := F)) 𝒱₀ (c : Thread nD τ) none) Set.univ (.op w p) Q) := by
  subst hn
  iintro ⟨#HI, Hc, HO, Hat⟩ Hk
  iapply (Rounds.wp_wait_rest_token 𝒱₀ ER (rd wq wo) (c : Thread nD τ) none (κ := K (snd a j c))
      hw (Set.mem_univ _) () (O := 0) (W := W) (R := 0) (m := 0) (T := ∅)
      ((Nat.zero_add _).trans (expect_snd wq wo c a j).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_snd wq wo c a j)) $$ Hpay
  iapply Hk
  isplitl [HO]; · iexact HO
  isplitl [Hat]; · iexact Hat
  iexact Hp

/-- A cell whose one round is over gives its counter back, at zero. -/
theorem close (g : GSem nD τ sig) : iprop(cI wq wo K g ∗ atPos ER g (0 + 1) ∅ 0) ⊢ (|={Set.univ}=> semVal g 0 : sProp 𝕄) :=
  Rounds.cell_close ER (rd wq wo) (Set.mem_univ (K g)) id (duties_later wq wo g)

end Steps

end Cert.KernelIdeal.Talk

end
-- ==== Proof.Setup.lean ====
/- What the body of one device is handed for the exchange, and what it owes, in the order it pays. -/
module

public import proofs.«01_k».proof.Proof.Talk

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev x0M : Memref sig .tc .vmem S2x256x512 .f32 := Memref.whole cc0_stg0_0
abbrev x1M : Memref sig .tc .vmem S512x256 .f32 := Memref.whole cc0_stg1_0
abbrev x2M : Memref sig .tc .vmem S32x256x64 .bf16 := Memref.whole cc0_stg2_0
abbrev x3M : Memref sig .tc .vmem S32x256x64 .bf16 := Memref.whole cc0_stg3_0
abbrev x4M : Memref sig .tc .vmem S256x512 .f32 := Memref.whole cc0_stg4_0
abbrev x5M : Memref sig .tc .vmem S2x256x512 .f32 := Memref.whole cc0_stg5_0

/-- The kernel's body on its staging buffers and its scratch. -/
abbrev body : Prog (TpuEff nD τ sig (Elt F) Λ₀ .tc) PUnit :=
  cc0__body x0M (Memref.isWhole_whole _) x1M (Memref.isWhole_whole _) x2M (Memref.isWhole_whole _) x3M (Memref.isWhole_whole _)
    x4M (Memref.isWhole_whole _) x5M (Memref.isWhole_whole _) xbM (Memref.isWhole_whole _) wqM (Memref.isWhole_whole _)
    woM (Memref.isWhole_whole _) scM (Memref.isWhole_whole _) (Memref.whole cc0_scratch4) (Memref.isWhole_whole _)
    (Memref.whole cc0_scratch5) (Memref.isWhole_whole _) (Memref.whole cc0_scratch6) (Memref.isWhole_whole _) ctM (Memref.isWhole_whole _)
    cc0_scratch8 cc0_scratch9 cc0_scratch10 cc0_scratch11 cc0_scratch12 cc0_scratch13

variable (wq : Dev nD → Vec F S512x256 .f32) (wo : Dev nD → Vec F S256x512 .f32)

/-! ## All invariants -/

/-- Every cell's invariant. -/
def allI (K : GSem nD τ sig → ℕ) : sProp 𝕄 :=
  bigSep Finset.univ fun c : Dev nD => iprop(cI wq wo K (bar c) ∗ bigSep Finset.univ fun p : Fin 3 × Fin 3 =>
    iprop(cI wq wo K (snd p.1 p.2 c) ∗ cI wq wo K (rcv p.1 p.2 c)))
instance allI_persistent (K : GSem nD τ sig → ℕ) : BI.Persistent (allI wq wo K) := by unfold allI; infer_instance
theorem allI_dev (K : GSem nD τ sig → ℕ) (c : Dev nD) : (allI wq wo K : sProp 𝕄)
    ⊢ iprop(cI wq wo K (bar c) ∗ bigSep Finset.univ fun p : Fin 3 × Fin 3 => iprop(cI wq wo K (snd p.1 p.2 c) ∗ cI wq wo K (rcv p.1 p.2 c))) :=
  bigSep_elim (Finset.mem_univ c)
theorem allI_pair (K : GSem nD τ sig → ℕ) (a j : Fin 3) (c : Dev nD) : (bigSep Finset.univ fun p : Fin 3 × Fin 3 => iprop(cI wq wo K (snd p.1 p.2 c) ∗ cI wq wo K (rcv p.1 p.2 c)) : sProp 𝕄)
    ⊢ iprop(cI wq wo K (snd a j c) ∗ cI wq wo K (rcv a j c)) :=
  bigSep_elim (Φ := fun p : Fin 3 × Fin 3 => iprop(cI wq wo K (snd p.1 p.2 c) ∗ cI wq wo K (rcv p.1 p.2 c))) (Finset.mem_univ ((a, j) : Fin 3 × Fin 3))
theorem allI_bar (K : GSem nD τ sig → ℕ) (c : Dev nD) : (allI wq wo K : sProp 𝕄) ⊢ cI wq wo K (bar c) := by
  iintro H
  ihave H := (allI_dev wq wo K c) $$ H
  icases H with ⟨H, -⟩
  iexact H
theorem allI_snd (K : GSem nD τ sig → ℕ) (a j : Fin 3) (c : Dev nD) : (allI wq wo K : sProp 𝕄) ⊢ cI wq wo K (snd a j c) := by
  iintro H
  ihave H := (allI_dev wq wo K c) $$ H
  icases H with ⟨-, H⟩
  ihave H := (allI_pair wq wo K a j c) $$ H
  icases H with ⟨H, -⟩
  iexact H
theorem allI_rcv (K : GSem nD τ sig → ℕ) (a j : Fin 3) (c : Dev nD) : (allI wq wo K : sProp 𝕄) ⊢ cI wq wo K (rcv a j c) := by
  iintro H
  ihave H := (allI_dev wq wo K c) $$ H
  icases H with ⟨-, H⟩
  ihave H := (allI_pair wq wo K a j c) $$ H
  icases H with ⟨-, H⟩
  iexact H

/-! ## Shares of a source -/

/-- A source array lent three times and kept. -/
theorem lent {sh : Shape} {e : EltTy} (M : Memref sig .tc .vmem sh e) (c : Dev nD) (f : M.view.ty.Contents (Elt F)) :
    (at' M fullShare c f : sProp 𝕄) ⊣⊢ iprop(at' M (lend 0) c f ∗ at' M (lend 1) c f ∗ at' M (lend 2) c f ∗ at' M keep c f) := by
  have h := fun q : PosShare TreeShare => pointsTo_share (Ix := Unit) (Val := Elt F) (Name := ℕ) (U := UU) (Lvl := ℕ) (ℓ := M.view.loc (c : Thread nD τ))
    (I := M.view.set) (f := f) (PosShare.mem_left_op_right q)
  constructor
  · iintro H
    ihave H := (h fullShare).1 $$ H
    icases H with ⟨H0, H⟩
    ihave H := (h fullShare.right).1 $$ H
    icases H with ⟨H1, H⟩
    ihave H := (h fullShare.right.right).1 $$ H
    icases H with ⟨H2, H⟩
    isplitl [H0]; · iexact H0
    isplitl [H1]; · iexact H1
    isplitl [H2]; · iexact H2
    iexact H
  · iintro ⟨H0, H1, H2, H⟩
    ihave H := (h fullShare.right.right).2 $$ [H2 H]
    · isplitl [H2]; · iexact H2
      iexact H
    ihave H := (h fullShare.right).2 $$ [H1 H]
    · isplitl [H1]; · iexact H1
      iexact H
    iapply (h fullShare).2
    isplitl [H0]; · iexact H0
    iexact H

/-! ## What the body owes, in the order it pays -/

theorem owR_eq (c : Dev nD) : owR c = ((((((((0 + tallyAt (rcv 1 2 (pr 2 c)) () (N 1)) + tallyAt (rcv 0 2 (pr 2 c)) () (N 0)) + tallyAt (rcv 2 2 (pr 2 c)) () (N 2))
      + tallyAt (rcv 1 1 (pr 1 c)) () (N 1)) + tallyAt (rcv 0 1 (pr 1 c)) () (N 0)) + tallyAt (rcv 2 1 (pr 1 c)) () (N 2))
      + tallyAt (rcv 1 0 (pr 0 c)) () (N 1)) + tallyAt (rcv 0 0 (pr 0 c)) () (N 0)) + tallyAt (rcv 2 0 (pr 0 c)) () (N 2) := by
  unfold owR
  rw [Fin.sum_univ_three, zero_add]
  ac_rfl
theorem O₀_eq (c : Dev nD) : O₀ c = ((owR c + tallyAt (bar (pr 2 c)) () 1) + tallyAt (bar (pr 1 c)) () 1) + tallyAt (bar (pr 0 c)) () 1 := by
  unfold O₀ owB
  rw [Fin.sum_univ_three]
  ac_rfl

/-! ## What the body is handed -/

/-- Of the cells of kind a and number j: the positions, that they are at round 0, the rights to pay, and the credit of the landing. -/
def pair (a j : Fin 3) (c : Dev nD) : sProp 𝕄 :=
  iprop(atPos ER (snd a j c) 0 ∅ 0 ∗ atPos ER (rcv a j c) 0 ∅ 0 ∗ reached ER (snd a j c) 0 ∗ reached ER (rcv a j c) 0
    ∗ dutyTok ER (snd a j c) 0 0 ∗ dutyTok ER (rcv a j (pr j c)) 0 0 ∗ cred (tallyAt (rcv a j c) () (N a)))
def sig1 (k : Fin 3) (c : Dev nD) : sProp 𝕄 := iprop(reached ER (bar (pr k c)) 0 ∗ dutyTok ER (bar (pr k c)) 0 k)
/-- All of one device's part in the exchange. -/
def ghost (c : Dev nD) : sProp 𝕄 :=
  iprop((bigSep Finset.univ fun k : Fin 3 => sig1 k c) ∗ atPos ER (bar c) 0 ∅ 0 ∗ cred (tallyAt (bar c) () 3)
    ∗ bigSep Finset.univ fun j : Fin 3 => bigSep Finset.univ fun a : Fin 3 => pair a j c)
theorem bigSep_kinds (Φ : Fin 3 → sProp 𝕄) : (bigSep Finset.univ Φ : sProp 𝕄) = iprop(Φ 2 ∗ Φ 0 ∗ Φ 1) :=
  bigSep_univ_eq_bigSepL [(2 : Fin 3), (0 : Fin 3), (1 : Fin 3)] (by decide) (by decide) Φ
theorem ghost_eq (c : Dev nD) : (ghost c : sProp 𝕄) = iprop((sig1 0 c ∗ sig1 1 c ∗ sig1 2 c) ∗ atPos ER (bar c) 0 ∅ 0 ∗ cred (tallyAt (bar c) () 3)
    ∗ (pair 2 0 c ∗ pair 0 0 c ∗ pair 1 0 c) ∗ (pair 2 1 c ∗ pair 0 1 c ∗ pair 1 1 c) ∗ (pair 2 2 c ∗ pair 0 2 c ∗ pair 1 2 c)) := by
  unfold ghost
  rw [bigSep3, bigSep3, bigSep_kinds, bigSep_kinds, bigSep_kinds]

end Cert.KernelIdeal.Talk

end
-- ==== Proof.Chunk.lean ====
/- WHAT ONE DEVICE COMPUTES from the four devices' quantised weights, over any reading of the floats.

   The kernel works through four chunks, one per origin d: it multiplies its rows by d's query weights, runs d's four heads
   for each of its two batch rows, scales and multiplies by d's output weights, and adds the result to the output. -/
module

public import proofs.«01_k».proof.Proof.Setup

@[expose] public section

noncomputable section

namespace Cert.KernelIdeal.Talk

open Idealize.ShloMosaic Idealize.ShloMosaic.TcCoe
open Idealize.ShloMosaic.Rounds
open Cert.KernelIdeal.Gen

variable {F : FTy → Type} [FloatOps F]

/-! ## One head -/

/-- The weights of a head before normalising: the exponential inside the band, zero outside. -/
def bandE (qh kh : FVec F S256x64 .bf16) : FVec F S256x256 .f32 :=
  select k0_pay11 (exp (matmul dot_S256x64_S256x64_S256x256_1_1_0_0_n_n none qh kh (constant S256x256 .f32 0x00000000#32)))
    (broadcast S256x256 (Scalar.ofBits .f32 0x00000000#32 : F .f32))
/-- A head's context: the weighted sum of the values over the sum of the weights. -/
def headV (qh kh vh : FVec F S256x64 .bf16) : FVec F S256x64 .bf16 :=
  shapeCast S256x64 (truncf .bf16 (divf (matmul dot_S256x256_S256x64_S256x64_1_0_0_1_n_n none (truncf .bf16 (bandE qh kh) bitsLt_bf16_f32) vh
      (constant S256x64 .f32 0x00000000#32))
    (broadcastTo S256x64 (shapeCast S256x1 (multiReduction .add [1] S256 (bandE qh kh) 0x00000000#32 reduces_S256x256_S256 (.inl rfl) rfl) shapeCasts_S256_S256x1)
      broadcasts_S256x1_S256x64)) bitsLt_bf16_f32) shapeCasts_S256x64_S256x64

theorem slQ (b : Fin 2) (h : Fin 4) : S512x256.Slices ![256 * b.val, 64 * h.val] S256x64 := by revert b h; decide
theorem slK (h : Fin 4) : S4x256x64.Slices ![h.val, 0, 0] S1x256x64 := by revert h; decide
/-- Head h of batch row b, of the queries. -/
def headQ (q : FVec F S512x256 .bf16) (b : Fin 2) (h : Fin 4) : FVec F S256x64 .bf16 := extractStridedSlice S256x64 ![256 * b.val, 64 * h.val] q (slQ b h)
/-- Head h of a batch row's four heads of keys, or of values. -/
def headK (k : FVec F S4x256x64 .bf16) (h : Fin 4) : FVec F S256x64 .bf16 :=
  shapeCast S256x64 (extractStridedSlice S1x256x64 ![h.val, 0, 0] (shapeCast S4x256x64 k shapeCasts_S4x256x64_S4x256x64) (slK h)) shapeCasts_S1x256x64_S256x64
/-- The context of head h of batch row b. -/
def headAt (q : FVec F S512x256 .bf16) (k v : Fin 2 → FVec F S4x256x64 .bf16) (b : Fin 2) (h : Fin 4) : FVec F S256x64 .bf16 :=
  headV (headQ q b h) (headK (k b) h) (headK (v b) h)

/-! ## A chunk's context array -/

/-- Eight blocks side by side: block (b, h) at row 256 b, column 64 h. -/
def ctxG (p : Fin 2 → Fin 4 → FVec F S256x64 .bf16) : FVec F S512x256 .bf16 := fun i =>
  p ⟨(i 0).val / 256, by have : (i 0).val < 512 := (i 0).isLt; omega⟩ ⟨(i 1).val / 64, by have : (i 1).val < 256 := (i 1).isLt; omega⟩
    (ix2 (⟨(i 0).val % 256, Nat.mod_lt _ (by decide)⟩ : Fin 256) (⟨(i 1).val % 64, Nat.mod_lt _ (by decide)⟩ : Fin 64))
/-- The eight stores, the last first. -/
def ctxL (p : Fin 2 → Fin 4 → FVec F S256x64 .bf16) : List (View.Piece (Elt F) S512x256 .bf16) :=
  [⟨Rect.unit ![256, 192] S256x64.size inb_S512x256_S256x64_256_192, p 1 3⟩, ⟨Rect.unit ![256, 128] S256x64.size inb_S512x256_S256x64_256_128, p 1 2⟩,
   ⟨Rect.unit ![256, 64] S256x64.size inb_S512x256_S256x64_256_64, p 1 1⟩, ⟨Rect.unit ![256, 0] S256x64.size inb_S512x256_S256x64_256_0, p 1 0⟩,
   ⟨Rect.unit ![0, 192] S256x64.size inb_S512x256_S256x64_0_192, p 0 3⟩, ⟨Rect.unit ![0, 128] S256x64.size inb_S512x256_S256x64_0_128, p 0 2⟩,
   ⟨Rect.unit ![0, 64] S256x64.size inb_S512x256_S256x64_0_64, p 0 1⟩, ⟨Rect.unit ![0, 0] S256x64.size inb_S512x256_S256x64_0_0, p 0 0⟩]
/-- A block lies where the array says. -/
theorem ctx_block (p : Fin 2 → Fin 4 → FVec F S256x64 .bf16) (b : Fin 2) (h : Fin 4) (inb : ∀ a, (![256 * b.val, 64 * h.val] : Fin 2 → ℕ) a + S256x64.size a ≤ S512x256.size a)
    (x : S256x64.Idx) : p b h x = ctxG p ((Rect.unit (s := S512x256) ![256 * b.val, 64 * h.val] S256x64.size inb).emb x) := by
  have hx0 : (x 0).val < 256 := (x 0).isLt
  have hx1 : (x 1).val < 64 := (x 1).isLt
  have e : x = ix2 (x 0 : Fin 256) (x 1 : Fin 64) := eq_ix2 x
  unfold ctxG
  have h0 : b = ⟨((Rect.unit (s := S512x256) ![256 * b.val, 64 * h.val] S256x64.size inb).emb x 0).val / 256, by
      show (256 * b.val + 1 * (x 0).val) / 256 < 2; have := b.isLt; omega⟩ := Fin.ext (by show b.val = (256 * b.val + 1 * (x 0).val) / 256; omega)
  have h1 : h = ⟨((Rect.unit (s := S512x256) ![256 * b.val, 64 * h.val] S256x64.size inb).emb x 1).val / 64, by
      show (64 * h.val + 1 * (x 1).val) / 64 < 4; have := h.isLt; omega⟩ := Fin.ext (by show h.val = (64 * h.val + 1 * (x 1).val) / 64; omega)
  have h2 : x = ix2 (⟨((Rect.unit (s := S512x256) ![256 * b.val, 64 * h.val] S256x64.size inb).emb x 0).val % 256, Nat.mod_lt _ (by decide)⟩ : Fin 256)
      (⟨((Rect.unit (s := S512x256) ![256 * b.val, 64 * h.val] S256x64.size inb).emb x 1).val % 64, Nat.mod_lt _ (by decide)⟩ : Fin 64) := by
    refine e.trans (congrArg₂ ix2 (Fin.ext ?_) (Fin.ext ?_))
    · show (x 0).val = (256 * b.val + 1 * (x 0).val) % 256; omega
    · show (x 1).val = (64 * h.val + 1 * (x 1).val) % 64; omega
  exact congr (congr (congrArg p h0) h1) h2
/-- Every element is under one of the eight stores. -/
theorem ctx_cover (p : Fin 2 → Fin 4 → FVec F S256x64 .bf16) (y : S512x256.Idx) : ∃ w ∈ ctxL p, y ∈ w.1.set :=
  View.cover_of_tiled (ctxL p) S256x64.size rfl y
/-- Any buffer after the eight stores reads the eight blocks. -/
theorem ctx_read (p : Fin 2 → Fin 4 → FVec F S256x64 .bf16) (f : ctM.view.ty.Contents (Elt F)) :
    ctM.view.read (Elt F) (ctM.view.writes (Elt F) f (ctxL p)) = ctxG p := by
  funext y
  refine View.read_writes_apply_of_pieces ctM.view f (ctxG p) (ctxL p) ?_ y (ctx_cover p y)
  intro w hw
  simp only [ctxL, List.mem_cons, List.not_mem_nil, or_false] at hw
  rcases hw with rfl | rfl | rfl | rfl | rfl | rfl | rfl | rfl <;> intro x
  · exact ctx_block p 1 3 inb_S512x256_S256x64_256_192 x
  · exact ctx_block p 1 2 inb_S512x256_S256x64_256_128 x
  · exact ctx_block p 1 1 inb_S512x256_S256x64_256_64 x
  · exact ctx_block p 1 0 inb_S512x256_S256x64_256_0 x
  · exact ctx_block p 0 3 inb_S512x256_S256x64_0_192 x
  · exact ctx_block p 0 2 inb_S512x256_S256x64_0_128 x
  · exact ctx_block p 0 1 inb_S512x256_S256x64_0_64 x
  · exact ctx_block p 0 0 inb_S512x256_S256x64_0_0 x

theorem inbR (b : Fin 2) : ∀ a, (![256 * b.val, 0] : Fin 2 → ℕ) a + S256x256.size a ≤ S512x256.size a := by revert b; decide
/-- Batch row b of a context array. -/
def ctxRow (g : FVec F S512x256 .bf16) (b : Fin 2) : FVec F S256x256 .bf16 := VecWindow.window (s := S512x256) g ![256 * b.val, 0] S256x256.size (inbR b)

/-! ## A chunk's contribution -/

/-- The queries for one origin's heads. -/
def qOf (xb : FVec F S512x512 .bf16) (w : Vec F S512x256 .i8) (s : FVec F S1x256 .f32) : FVec F S512x256 .bf16 := k0_pay13 s (sitofp .bf16 w) xb
theorem qOf_eq {s s' : FVec F S1x256 .f32} {w w' : Vec F S512x256 .i8} {x x' : FVec F S512x512 .bf16} (hs : s = s') (hw : w = w') (hx : x = x') :
    k0_pay13 s (sitofp .bf16 w) x = qOf x' w' s' := by subst hs hw hx; rfl
/-- A batch row of context, scaled, times output weights already converted. -/
def partF (s : FVec F S1x256 .f32) (w : FVec F S256x512 .bf16) (r : FVec F S256x256 .bf16) : FVec F S256x512 .f32 :=
  matmul dot_S256x256_S256x512_S256x512_1_0_0_1_n_n none
    (truncf .bf16 (mulf (extf .f32 r bitsLt_bf16_f32) (broadcastTo S256x256 s broadcasts_S1x256_S256x256)) bitsLt_bf16_f32) w (constant S256x512 .f32 0x00000000#32)
/-- The rows of x, narrowed: batch row b at row 256 b. -/
def xbA (x0 : Vec F S2x256x512 .f32) : FVec F S512x512 .bf16 := fun i =>
  if (i 0).val < 256 then k0_pay9 (fun z : S1x256x512.Idx => x0 (ix3 (0 : Fin 2) (z 1 : Fin 256) (z 2 : Fin 512))) (ix2 (⟨(i 0).val % 256, Nat.mod_lt _ (by decide)⟩ : Fin 256) (i 1 : Fin 512))
  else k0_pay10 (fun z : S1x256x512.Idx => x0 (ix3 (1 : Fin 2) (z 1 : Fin 256) (z 2 : Fin 512))) (ix2 (⟨(i 0).val % 256, Nat.mod_lt _ (by decide)⟩ : Fin 256) (i 1 : Fin 512))
/-- Origin n's four heads of batch row b, of an array of keys or values. -/
def kvW (x : Vec F S32x256x64 .bf16) (n : Dev nD) (b : Fin 2) : FVec F S4x256x64 .bf16 := fun i =>
  x (ix3 (⟨16 * b.val + 4 * n.val + (i 0).val, by have := b.isLt; have : n.val < 4 := n.isLt; have : (i 0).val < 4 := (i 0).isLt; omega⟩ : Fin 32) (i 1 : Fin 256) (i 2 : Fin 64))

variable (wq : Dev nD → Vec F S512x256 .f32) (wo : Dev nD → Vec F S256x512 .f32)

/-- What origin d's heads contribute to batch row b of the output. -/
def partD (x0 : Vec F S2x256x512 .f32) (x2 x3 : Vec F S32x256x64 .bf16) (d : Dev nD) (b : Fin 2) : FVec F S256x512 .f32 :=
  partF (k0_pay8 (k0_pay5 (wo d))) (sitofp .bf16 (oA wo d)) (ctxRow (ctxG (headAt (qOf (xbA x0) (qA wq d) (k0_pay7 (wq d))) (kvW x2 d) (kvW x3 d))) b)
/-- Two batch rows of an output. -/
def accV (v : Fin 2 → FVec F S256x512 .f32) : Vec F S2x256x512 .f32 := fun i => v (i 0) (ix2 (i 1 : Fin 256) (i 2 : Fin 512))
/-- The output: the four contributions in the order the kernel adds them. -/
def outB (x0 : Vec F S2x256x512 .f32) (x2 x3 : Vec F S32x256x64 .bf16) (c : Dev nD) (b : Fin 2) : FVec F S256x512 .f32 :=
  addf (addf (addf (partD wq wo x0 x2 x3 c b) (partD wq wo x0 x2 x3 (pr 2 c) b)) (partD wq wo x0 x2 x3 (pr 0 c) b)) (partD wq wo x0 x2 x3 (pr 1 c) b)

/-! ## The output buffer -/

/-- The two stores of an output, the last first. -/
def accL (v : Fin 2 → FVec F S256x512 .f32) : List (View.Piece (Elt F) S2x256x512 .f32) :=
  [⟨Rect.unit ![1, 0, 0] S1x256x512.size inb_S2x256x512_S1x256x512_1_0_0, shapeCast S1x256x512 (v 1) shapeCasts_S256x512_S1x256x512⟩,
   ⟨Rect.unit ![0, 0, 0] S1x256x512.size inb_S2x256x512_S1x256x512_0_0_0, shapeCast S1x256x512 (v 0) shapeCasts_S256x512_S1x256x512⟩]
/-- After storing both batch rows the output buffer holds them. -/
theorem acc_read (v : Fin 2 → FVec F S256x512 .f32) (f : x5M.view.ty.Contents (Elt F)) :
    x5M.view.read (Elt F) (x5M.view.writes (Elt F) f (accL v)) = accV v := by
  funext y
  refine View.read_writes_apply_of_pieces x5M.view f (accV v) (accL v) ?_ y (View.cover_of_tiled (accL v) S1x256x512.size rfl y)
  have key : ∀ (b : Fin 2) (inb : ∀ a, (![b.val, 0, 0] : Fin 3 → ℕ) a + S1x256x512.size a ≤ S2x256x512.size a) (x : S1x256x512.Idx),
      shapeCast S1x256x512 (v b) shapeCasts_S256x512_S1x256x512 x = accV v ((Rect.unit (s := S2x256x512) ![b.val, 0, 0] S1x256x512.size inb).emb x) := by
    intro b inb x
    have hx : (x 0).val < 1 := (x 0).isLt
    refine (congrArg _ (eq_ix3 (n0 := 1) (n1 := 256) (n2 := 512) x)).trans ?_
    refine (ValueIdx.shapeCast_ab_1ab_apply _ _ _ _ _).trans ?_
    unfold accV
    refine congr (congrArg v (Fin.ext ?_)) (congrArg₂ ix2 (Fin.ext ?_) (Fin.ext ?_))
    · show b.val = b.val + 1 * (x 0).val; omega
    · show (x 1).val = 0 + 1 * (x 1).val; omega
    · show (x 2).val = 0 + 1 * (x 2).val; omega
  intro w hw
  simp only [accL, List.mem_cons, List.not_mem_nil, or_false] at hw
  rcases hw with rfl | rfl <;> intro x
  · exact key 1 inb_S2x256x512_S1x256x512_1_0_0 x
  · exact key 0 inb_S2x256x512_S1x256x512_0_0_0 x
/-- A batch row of the output loaded back. -/
theorem acc_row (v : Fin 2 → FVec F S256x512 .f32) (b : Fin 2) (inb : ∀ a, (![b.val, 0, 0] : Fin 3 → ℕ) a + S1x256x512.size a ≤ S2x256x512.size a) :
    shapeCast S256x512 (x5M.view.readAt (Elt F) (Rect.unit (s := S2x256x512) ![b.val, 0, 0] S1x256x512.size inb).toLoadRect (accV v)) shapeCasts_S1x256x512_S256x512 = v b := by
  funext i
  refine (congrArg _ (eq_ix2 (n0 := 256) (n1 := 512) i)).trans ?_
  refine (ValueIdx.shapeCast_1ab_ab_apply _ _ _ _).trans ?_
  show accV v _ = v b i
  unfold accV
  refine congr (congrArg v (Fin.ext ?_)) ((congrArg₂ ix2 (Fin.ext ?_) (Fin.ext ?_)).trans (eq_ix2 i).symm)
  · show b.val + 1 * 0 = b.val; omega
  · show 0 + 1 * (i 0).val = (i 0).val; omega
  · show 0 + 1 * (i 1).val = (i 1).val; omega

/-! ## From the loads to a chunk -/

/-- A chunk's eight stores from what its loads read. -/
theorem heads_eq {q q' : FVec F S512x256 .bf16} {k0 k1 v0 v1 : FVec F S4x256x64 .bf16} {k v : Fin 2 → FVec F S4x256x64 .bf16} (hq : q = q')
    (h0 : k0 = k 0) (h1 : k1 = k 1) (g0 : v0 = v 0) (g1 : v1 = v 1) : ctxL (headAt q ![k0, k1] ![v0, v1]) = ctxL (headAt q' k v) := by
  subst hq h0 h1 g0 g1
  refine congrArg ctxL (congrArg₂ (headAt q) (funext fun b => ?_) (funext fun b => ?_)) <;> (match b with | 0 => rfl | 1 => rfl)
/-- A chunk's two output stores from its parts: the first chunk stores its contribution, -/
theorem out_eq {s : FVec F S1x256 .f32} {w : FVec F S256x512 .bf16} {r0 r1 : FVec F S256x256 .bf16} (s' : FVec F S1x256 .f32) (w' : FVec F S256x512 .bf16)
    (r : Fin 2 → FVec F S256x256 .bf16) (hs : s = s') (hw : w = w') (h0 : r0 = r 0) (h1 : r1 = r 1) :
    ([⟨Rect.unit ![1, 0, 0] S1x256x512.size inb_S2x256x512_S1x256x512_1_0_0, shapeCast S1x256x512 (partF s w r1) shapeCasts_S256x512_S1x256x512⟩,
      ⟨Rect.unit ![0, 0, 0] S1x256x512.size inb_S2x256x512_S1x256x512_0_0_0, shapeCast S1x256x512 (partF s w r0) shapeCasts_S256x512_S1x256x512⟩] : List (View.Piece (Elt F) S2x256x512 .f32))
      = accL fun b => partF s' w' (r b) := by
  subst hs hw h0 h1; rfl
/-- and a later one adds its own to what the output holds. -/
theorem add_eq {s : FVec F S1x256 .f32} {w : FVec F S256x512 .bf16} {r0 r1 : FVec F S256x256 .bf16} {p0 p1 : FVec F S256x512 .f32}
    (v : Fin 2 → FVec F S256x512 .f32) (s' : FVec F S1x256 .f32) (w' : FVec F S256x512 .bf16)
    (r : Fin 2 → FVec F S256x256 .bf16) (hs : s = s') (hw : w = w') (h0 : r0 = r 0) (h1 : r1 = r 1) (e0 : p0 = v 0) (e1 : p1 = v 1) :
    ([⟨Rect.unit ![1, 0, 0] S1x256x512.size inb_S2x256x512_S1x256x512_1_0_0, shapeCast S1x256x512 (addf p1 (partF s w r1)) shapeCasts_S256x512_S1x256x512⟩,
      ⟨Rect.unit ![0, 0, 0] S1x256x512.size inb_S2x256x512_S1x256x512_0_0_0, shapeCast S1x256x512 (addf p0 (partF s w r0)) shapeCasts_S256x512_S1x256x512⟩] : List (View.Piece (Elt F) S2x256x512 .f32))
      = accL fun b => addf (v b) (partF s' w' (r b)) := by
  subst hs hw h0 h1 e0 e1; rfl
/-- The output buffer after a chunk's two stores. -/
theorem acc_pts (f : x5M.view.ty.Contents (Elt F)) {L : List (View.Piece (Elt F) S2x256x512 .f32)} {v : Fin 2 → FVec F S256x512 .f32} (h : L = accL v) :
    x5M.view.read (Elt F) (x5M.view.writes (Elt F) f L) = x5M.view.read (Elt F) (accV v) := by
  subst h
  exact (acc_read v f).trans (View.read_whole cc0_stg5_0 (accV v)).symm

/-! ## What the loads read -/

/-- The two stores of the narrowed rows of x leave the narrowed rows. -/
theorem xb_read (x0 : Vec F S2x256x512 .f32) (f : xbM.view.ty.Contents (Elt F)) :
    xbM.view.read (Elt F) (xbM.view.writes (Elt F) f
      [⟨Rect.unit ![256, 0] S256x512.size inb_S512x512_S256x512_256_0,
          k0_pay10 (x0M.view.readAt (Elt F) (Rect.unit (s := S2x256x512) ![1, 0, 0] S1x256x512.size inb_S2x256x512_S1x256x512_1_0_0).toLoadRect x0)⟩,
        ⟨Rect.unit ![0, 0] S256x512.size inb_S512x512_S256x512_0_0,
          k0_pay9 (x0M.view.readAt (Elt F) (Rect.unit (s := S2x256x512) ![0, 0, 0] S1x256x512.size inb_S2x256x512_S1x256x512_0_0_0).toLoadRect x0)⟩]) = xbA x0 := by
  have r1 : x0M.view.readAt (Elt F) (Rect.unit (s := S2x256x512) ![1, 0, 0] S1x256x512.size inb_S2x256x512_S1x256x512_1_0_0).toLoadRect x0
      = fun z : S1x256x512.Idx => x0 (ix3 (1 : Fin 2) (z 1 : Fin 256) (z 2 : Fin 512)) := by
    funext z
    have hz : (z 0).val < 1 := (z 0).isLt
    refine congrArg x0 (funext fun a => Fin.ext ?_)
    match a with
    | 0 => show 1 + 1 * (z 0).val = 1; omega
    | 1 => show 0 + 1 * (z 1).val = (z 1).val; omega
    | 2 => show 0 + 1 * (z 2).val = (z 2).val; omega
  have r0 : x0M.view.readAt (Elt F) (Rect.unit (s := S2x256x512) ![0, 0, 0] S1x256x512.size inb_S2x256x512_S1x256x512_0_0_0).toLoadRect x0
      = fun z : S1x256x512.Idx => x0 (ix3 (0 : Fin 2) (z 1 : Fin 256) (z 2 : Fin 512)) := by
    funext z
    have hz : (z 0).val < 1 := (z 0).isLt
    refine congrArg x0 (funext fun a => Fin.ext ?_)
    match a with
    | 0 => show 0 + 1 * (z 0).val = 0; omega
    | 1 => show 0 + 1 * (z 1).val = (z 1).val; omega
    | 2 => show 0 + 1 * (z 2).val = (z 2).val; omega
  rw [r1, r0]
  funext y
  refine View.read_writes_apply_of_pieces xbM.view f (xbA x0) _ ?_ y (View.cover_of_tiled (s := S512x512) _ S256x512.size rfl y)
  intro w hw
  simp only [List.mem_cons, List.not_mem_nil, or_false] at hw
  rcases hw with rfl | rfl <;> intro x
  · have hx : (x 0).val < 256 := (x 0).isLt
    refine Eq.trans ?_ (if_neg (show ¬ 256 + 1 * (x 0).val < 256 by omega)).symm
    refine congrArg _ ((eq_ix2 x).trans (congrArg₂ ix2 (Fin.ext ?_) (Fin.ext ?_)))
    · show (x 0).val = (256 + 1 * (x 0).val) % 256; omega
    · show (x 1).val = 0 + 1 * (x 1).val; omega
  · have hx : (x 0).val < 256 := (x 0).isLt
    refine Eq.trans ?_ (if_pos (show 0 + 1 * (x 0).val < 256 by omega)).symm
    refine congrArg _ ((eq_ix2 x).trans (congrArg₂ ix2 (Fin.ext ?_) (Fin.ext ?_)))
    · show (x 0).val = (0 + 1 * (x 0).val) % 256; omega
    · show (x 1).val = 0 + 1 * (x 1).val; omega

theorem xb_whole (x0 : Vec F S2x256x512 .f32) : xbA x0 = xbM.view.read (Elt F) (xbA x0) :=
  (View.read_whole (Val := Elt F) cc0_scratch0 (xbA x0)).symm

/-- A batch row of a context array, loaded. -/
theorem ctx_load (p : Fin 2 → Fin 4 → FVec F S256x64 .bf16) (b : Fin 2) (inb : ∀ a, (![256 * b.val, 0] : Fin 2 → ℕ) a + S256x256.size a ≤ S512x256.size a) :
    ctM.view.readCov (Val := Elt F) (ctxL p) (Rect.unit (s := S512x256) ![256 * b.val, 0] S256x256.size inb).toLoadRect = ctxRow (ctxG p) b :=
  (View.readAt_unit ctM.view _ inb rfl inb).trans
    (congrArg (fun g : S512x256.Idx → Elt F .bf16 => VecWindow.window (s := S512x256) g ![256 * b.val, 0] S256x256.size inb) (ctx_read p _))

/-- Origin n's heads, loaded from the keys or the values. -/
theorem k_load (x : Vec F S32x256x64 .bf16) (n : Dev nD) (b : Fin 2) {off : Fin 3 → ℕ} (h : off = ![16 * b.val + 4 * n.val, 0, 0])
    (inb : ∀ a, off a + S4x256x64.size a ≤ S32x256x64.size a) :
    x2M.view.readAt (Elt F) (Rect.unit (s := S32x256x64) off S4x256x64.size inb).toLoadRect x = kvW x n b := by
  subst h
  funext z
  refine congrArg x (funext fun a => Fin.ext ?_)
  match a with
  | 0 => show 16 * b.val + 4 * n.val + 1 * (z 0).val = 16 * b.val + 4 * n.val + (z 0).val; omega
  | 1 => show 0 + 1 * (z 1).val = (z 1).val; omega
  | 2 => show 0 + 1 * (z 2).val = (z 2).val; omega
theorem v_load (x : Vec F S32x256x64 .bf16) (n : Dev nD) (b : Fin 2) {off : Fin 3 → ℕ} (h : off = ![16 * b.val + 4 * n.val, 0, 0])
    (inb : ∀ a, off a + S4x256x64.size a ≤ S32x256x64.size a) :
    x3M.view.readAt (Elt F) (Rect.unit (s := S32x256x64) off S4x256x64.size inb).toLoadRect x = kvW x n b :=
  k_load x n b h inb
theorem off_own (c : Dev nD) : k0_off1 c 0#32 = ![16 * (0 : Fin 2).val + 4 * c.val, 0, 0] ∧ k0_off1 c 16#32 = ![16 * (1 : Fin 2).val + 4 * c.val, 0, 0] := by revert c; decide
theorem off_slot0 (c : Dev nD) : k0_off2 c 0#32 1#32 = ![16 * (0 : Fin 2).val + 4 * (pr 2 c).val, 0, 0] ∧ k0_off2 c 16#32 1#32 = ![16 * (1 : Fin 2).val + 4 * (pr 2 c).val, 0, 0] := by revert c; decide
theorem off_slot1 (c : Dev nD) : k0_off2 c 0#32 2#32 = ![16 * (0 : Fin 2).val + 4 * (pr 1 c).val, 0, 0] ∧ k0_off2 c 16#32 2#32 = ![16 * (1 : Fin 2).val + 4 * (pr 1 c).val, 0, 0] := by revert c; decide
theorem off_slot2 (c : Dev nD) : k0_off2 c 0#32 3#32 = ![16 * (0 : Fin 2).val + 4 * (pr 0 c).val, 0, 0] ∧ k0_off2 c 16#32 3#32 = ![16 * (1 : Fin 2).val + 4 * (pr 0 c).val, 0, 0] := by revert c; decide

/-- A device's own two rows of scales, loaded. -/
theorem sc_row0 (c : Dev nD) (inb : ∀ a, (![0, 0] : Fin 2 → ℕ) a + S1x256.size a ≤ S2x256.size a) :
    scM.view.readAt (Elt F) (Rect.unit (s := S2x256) ![0, 0] S1x256.size inb).toLoadRect (sA wq wo c) = k0_pay7 (wq c) := by
  funext i
  have hi : (i 0).val < 1 := (i 0).isLt
  refine (if_pos (show 0 + 1 * (i 0).val = 0 by omega)).trans (congrArg _ (funext fun a => Fin.ext ?_))
  match a with
  | 0 => show 0 = (i 0).val; omega
  | 1 => show 0 + 1 * (i 1).val = (i 1).val; omega
theorem sc_row1 (c : Dev nD) (inb : ∀ a, (![1, 0] : Fin 2 → ℕ) a + S1x256.size a ≤ S2x256.size a) :
    scM.view.readAt (Elt F) (Rect.unit (s := S2x256) ![1, 0] S1x256.size inb).toLoadRect (sA wq wo c) = k0_pay8 (k0_pay5 (wo c)) := by
  funext i
  have hi : (i 0).val < 1 := (i 0).isLt
  refine (if_neg (show ¬ 1 + 1 * (i 0).val = 0 by omega)).trans (congrArg _ (funext fun a => Fin.ext ?_))
  match a with
  | 0 => show 0 = (i 0).val; omega
  | 1 => show 0 + 1 * (i 1).val = (i 1).val; omega

/-- What a landing slot holds, loaded: the sender's query weights, -/
theorem q_slot (j : Fin 3) (X : Vec F S512x256 .i8) (inb : ∀ a, (![j.val, 0, 0] : Fin 3 → ℕ) a + S1x512x256.size a ≤ S3x512x256.size a) :
    shapeCast S512x256 ((Memref.whole cc0_scratch4).view.readAt (Elt F) (Rect.unit (s := S3x512x256) ![j.val, 0, 0] S1x512x256.size inb).toLoadRect (up X)) shapeCasts_S1x512x256_S512x256 = X := by
  funext i
  refine (congrArg _ (eq_ix2 (n0 := 512) (n1 := 256) i)).trans ((ValueIdx.shapeCast_1ab_ab_apply _ _ _ _).trans (congrArg X (funext fun a => Fin.ext ?_)))
  match a with
  | 0 => show 0 + 1 * (i 0).val = (i 0).val; omega
  | 1 => show 0 + 1 * (i 1).val = (i 1).val; omega
/-- its output weights, -/
theorem o_slot (j : Fin 3) (X : Vec F S256x512 .i8) (inb : ∀ a, (![j.val, 0, 0] : Fin 3 → ℕ) a + S1x256x512.size a ≤ S3x256x512.size a) :
    shapeCast S256x512 ((Memref.whole cc0_scratch5).view.readAt (Elt F) (Rect.unit (s := S3x256x512) ![j.val, 0, 0] S1x256x512.size inb).toLoadRect (up X)) shapeCasts_S1x256x512_S256x512 = X := by
  funext i
  refine (congrArg _ (eq_ix2 (n0 := 256) (n1 := 512) i)).trans ((ValueIdx.shapeCast_1ab_ab_apply _ _ _ _).trans (congrArg X (funext fun a => Fin.ext ?_)))
  match a with
  | 0 => show 0 + 1 * (i 0).val = (i 0).val; omega
  | 1 => show 0 + 1 * (i 1).val = (i 1).val; omega
/-- a row of its scales: -/
theorem s_slot (j : Fin 3) (r : Fin 2) (X : Vec F S2x256 .f32) (inb : ∀ a, (![j.val, r.val, 0] : Fin 3 → ℕ) a + S1x1x256.size a ≤ S3x2x256.size a) :
    shapeCast S1x256 ((Memref.whole cc0_scratch6).view.readAt (Elt F) (Rect.unit (s := S3x2x256) ![j.val, r.val, 0] S1x1x256.size inb).toLoadRect (up X)) shapeCasts_S1x1x256_S1x256
      = fun i => X (ix2 r (i 1 : Fin 256)) := by
  funext i
  refine (congrArg _ (eq_ix2 (n0 := 1) (n1 := 256) i)).trans ((ValueIdx.shapeCast_1ab_ab_apply _ _ _ _).trans (congrArg X (funext fun a => Fin.ext ?_)))
  match a with
  | 0 => show r.val + 1 * (i 0).val = r.val; have : (i 0).val < 1 := (i 0).isLt; omega
  | 1 => show 0 + 1 * (i 1).val = (i 1).val; omega
/-- the scales of its query weights, -/
theorem s_slot0 (j : Fin 3) (d : Dev nD) (inb : ∀ a, (![j.val, 0, 0] : Fin 3 → ℕ) a + S1x1x256.size a ≤ S3x2x256.size a) :
    shapeCast S1x256 ((Memref.whole cc0_scratch6).view.readAt (Elt F) (Rect.unit (s := S3x2x256) ![j.val, 0, 0] S1x1x256.size inb).toLoadRect (up (sA wq wo d))) shapeCasts_S1x1x256_S1x256
      = k0_pay7 (wq d) := by
  refine (s_slot j 0 (sA wq wo d) inb).trans (funext fun i => (if_pos rfl).trans (congrArg _ ?_))
  exact ((congrArg (fun z : Fin 1 => ix2 z (i 1 : Fin 256)) (Subsingleton.elim _ _)).trans (eq_ix2 (n0 := 1) (n1 := 256) i).symm)
/-- and of its output weights. -/
theorem s_slot1 (j : Fin 3) (d : Dev nD) (inb : ∀ a, (![j.val, 1, 0] : Fin 3 → ℕ) a + S1x1x256.size a ≤ S3x2x256.size a) :
    shapeCast S1x256 ((Memref.whole cc0_scratch6).view.readAt (Elt F) (Rect.unit (s := S3x2x256) ![j.val, 1, 0] S1x1x256.size inb).toLoadRect (up (sA wq wo d))) shapeCasts_S1x1x256_S1x256
      = k0_pay8 (k0_pay5 (wo d)) := by
  refine (s_slot j 1 (sA wq wo d) inb).trans (funext fun i => (if_neg (show ¬ (1 : ℕ) = 0 by omega)).trans (congrArg _ ?_))
  exact ((congrArg (fun z : Fin 1 => ix2 z (i 1 : Fin 256)) (Subsingleton.elim _ _)).trans (eq_ix2 (n0 := 1) (n1 := 256) i).symm)

/-- A batch row of a chunk's context, loaded after the chunk's eight stores. -/
theorem row_load {q q' : FVec F S512x256 .bf16} {k0 k1 v0 v1 : FVec F S4x256x64 .bf16} {k v : Fin 2 → FVec F S4x256x64 .bf16} (hq : q = q')
    (h0 : k0 = k 0) (h1 : k1 = k 1) (g0 : v0 = v 0) (g1 : v1 = v 1) (b : Fin 2) (inb : ∀ a, (![256 * b.val, 0] : Fin 2 → ℕ) a + S256x256.size a ≤ S512x256.size a) :
    ctM.view.readCov (Val := Elt F) (ctxL (headAt q ![k0, k1] ![v0, v1])) (Rect.unit (s := S512x256) ![256 * b.val, 0] S256x256.size inb).toLoadRect = ctxRow (ctxG (headAt q' k v)) b :=
  (congrArg (fun l => ctM.view.readCov (Val := Elt F) l (Rect.unit (s := S512x256) ![256 * b.val, 0] S256x256.size inb).toLoadRect) (heads_eq hq h0 h1 g0 g1)).trans (ctx_load _ b inb)

end Cert.KernelIdeal.Talk

end
-- ==== Proof.Body.lean ====
/- THE BODY, run at one device from its part of the exchange to the output it leaves.

   The body quantises the device's own weights, opens the barrier with its three peers, sends nine copies, works through
   its own chunk, then waits for and works through the chunks in slots 0, 2 and 1, and takes its nine departures. -/
module

public import proofs.«01_k».proof.Proof.Chunk

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (wq : Dev nD → Vec F S512x256 .f32) (wo : Dev nD → Vec F S256x512 .f32)

/-! ## Taking up and giving back -/

/-- A buffer's contents under a name. -/
theorem name_it {sh : Shape} {e : EltTy} (M : Memref sig .tc .vmem sh e) (c : Dev nD) (f v : M.view.ty.Contents (Elt F)) (h : M.view.read (Elt F) f = M.view.read (Elt F) v) :
    (at' M fullShare c f : sProp 𝕄) ⊢ iprop(∃ g : M.view.ty.Contents (Elt F), ⌜g = v⌝ ∗ at' M fullShare c g) := by
  iintro H
  ihave H := (Entails.of_eq (pts_of_read M fullShare c _ _ h)) $$ H
  iexists v
  isplitr
  · ipureintro; rfl
  iexact H
/-- The two cells of kind a and number j, their round over, give their counters back. -/
theorem close_pair (K : GSem nD τ sig → ℕ) (a j : Fin 3) (c : Dev nD) :
    iprop(allI wq wo K ∗ atPos ER (snd a j c) 1 ∅ 0 ∗ atPos ER (rcv a j c) 1 ∅ 0) ⊢ (|={Set.univ}=> (semVal (snd a j c) 0 ∗ semVal (rcv a j c) 0) : sProp 𝕄) := by
  iintro ⟨#HI, Hs, Hr⟩
  imod (close wq wo K (snd a j c)) $$ [Hs] with Vs
  · isplitr
    · iapply (allI_snd wq wo K a j c); iexact HI
    iexact Hs
  imod (close wq wo K (rcv a j c)) $$ [Hr] with Vr
  · isplitr
    · iapply (allI_rcv wq wo K a j c); iexact HI
    iexact Hr
  imodintro
  isplitl [Vs] <;> iassumption
/-- The three departures of a kind and the share kept make the source whole again: the query weights, -/
theorem whole_q (c : Dev nD) : iprop(sndPay wq wo 0 0 c ∗ sndPay wq wo 0 1 c ∗ sndPay wq wo 0 2 c ∗ at' wqM keep c (qA wq c)) ⊢ (at' wqM fullShare c (qA wq c) : sProp 𝕄) :=
  (lent wqM c (qA wq c)).2
/-- the output weights, -/
theorem whole_o (c : Dev nD) : iprop(sndPay wq wo 1 0 c ∗ sndPay wq wo 1 1 c ∗ sndPay wq wo 1 2 c ∗ at' woM keep c (oA wo c)) ⊢ (at' woM fullShare c (oA wo c) : sProp 𝕄) :=
  (lent woM c (oA wo c)).2
/-- the scales. -/
theorem whole_s (c : Dev nD) : iprop(sndPay wq wo 2 0 c ∗ sndPay wq wo 2 1 c ∗ sndPay wq wo 2 2 c ∗ at' scM keep c (sA wq wo c)) ⊢ (at' scM fullShare c (sA wq wo c) : sProp 𝕄) :=
  (lent scM c (sA wq wo c)).2

/-- Two rows stored one after the other. -/
theorem two_rows (f9 : Vec F S2x256 .f32) (r0 r1 : Vec F S1x256 .f32) :
    scM.view.read (Elt F) (scM.view.writes (Elt F) f9 [⟨Rect.unit ![1, 0] S1x256.size inb_S2x256_S1x256_1_0, r1⟩, ⟨Rect.unit ![0, 0] S1x256.size inb_S2x256_S1x256_0_0, r0⟩])
      = fun i => if (i 0).val = 0 then r0 (ix2 (0 : Fin 1) (i 1 : Fin 256)) else r1 (ix2 (0 : Fin 1) (i 1 : Fin 256)) := by
  refine (View.read_writes_cons_put scM.view f9 inb_S2x256_S1x256_1_0 r1 _ rfl).trans ?_
  refine (congrArg (fun z : S2x256.Idx → Elt F .f32 => VecWindow.put z ![1, 0] S1x256.size r1) (View.read_writes_cons_put scM.view f9 inb_S2x256_S1x256_0_0 r0 [] rfl)).trans ?_
  funext i
  have hi : (i 0).val < 2 := (i 0).isLt
  have hj : (i 1).val < 256 := (i 1).isLt
  unfold VecWindow.put
  by_cases h : (i 0).val = 0
  · rw [if_pos h, dif_neg (fun H => by have := (H 0).1; change 1 ≤ (i 0).val at this; omega),
      dif_pos (by intro a; match a with | 0 => exact ⟨Nat.zero_le _, by show (i 0).val < 0 + 1; omega⟩ | 1 => exact ⟨Nat.zero_le _, by show (i 1).val < 0 + 256; omega⟩)]
    refine congrArg r0 (funext fun a => Fin.ext ?_)
    match a with
    | 0 => show (i 0).val - 0 = 0; omega
    | 1 => show (i 1).val - 0 = (i 1).val; omega
  · rw [if_neg h, dif_pos (by intro a; match a with | 0 => exact ⟨by show 1 ≤ (i 0).val; omega, by show (i 0).val < 1 + 1; omega⟩ | 1 => exact ⟨Nat.zero_le _, by show (i 1).val < 0 + 256; omega⟩)]
    refine congrArg r1 (funext fun a => Fin.ext ?_)
    match a with
    | 0 => show (i 0).val - 1 = 0; omega
    | 1 => show (i 1).val - 0 = (i 1).val; omega

/-! ## The body -/

/-- The landing slots numbered j, at contents not chosen. -/
def slots (j : Fin 3) (c : Dev nD) : sProp 𝕄 := iprop((∃ f, sPts j c f) ∗ (∃ f, qPts j c f) ∗ ∃ f, oPts j c f)
/-- The scratch the body fills, at contents not chosen. -/
def scr (c : Dev nD) : sProp 𝕄 :=
  iprop((∃ f, at' xbM fullShare c f) ∗ (∃ f, at' wqM fullShare c f) ∗ (∃ f, at' woM fullShare c f) ∗ (∃ f, at' scM fullShare c f) ∗ ∃ f, at' ctM fullShare c f)
/-- The inputs the body reads, as staged. -/
def ins (c : Dev nD) (x0 : Vec F S2x256x512 .f32) (x2 x3 : Vec F S32x256x64 .bf16) : sProp 𝕄 :=
  iprop(at' x0M fullShare c x0 ∗ at' x1M fullShare c (wq c) ∗ at' x2M fullShare c x2 ∗ at' x3M fullShare c x3 ∗ at' x4M fullShare c (wo c))
/-- Every transfer counter of the device back at zero. -/
def zeros (c : Dev nD) : sProp 𝕄 := bigSep Finset.univ fun j : Fin 3 => bigSep Finset.univ fun a : Fin 3 => iprop(semVal (snd a j c) 0 ∗ semVal (rcv a j c) 0)
theorem zeros_eq (c : Dev nD) : (zeros c : sProp 𝕄) = iprop(
    ((semVal (snd 2 0 c) 0 ∗ semVal (rcv 2 0 c) 0) ∗ (semVal (snd 0 0 c) 0 ∗ semVal (rcv 0 0 c) 0) ∗ (semVal (snd 1 0 c) 0 ∗ semVal (rcv 1 0 c) 0))
    ∗ ((semVal (snd 2 1 c) 0 ∗ semVal (rcv 2 1 c) 0) ∗ (semVal (snd 0 1 c) 0 ∗ semVal (rcv 0 1 c) 0) ∗ (semVal (snd 1 1 c) 0 ∗ semVal (rcv 1 1 c) 0))
    ∗ ((semVal (snd 2 2 c) 0 ∗ semVal (rcv 2 2 c) 0) ∗ (semVal (snd 0 2 c) 0 ∗ semVal (rcv 0 2 c) 0) ∗ (semVal (snd 1 2 c) 0 ∗ semVal (rcv 1 2 c) 0))) := by
  unfold zeros
  rw [bigSep3, bigSep_kinds, bigSep_kinds, bigSep_kinds]

set_option maxHeartbeats 4000000 in
/-- From its part of the exchange, its inputs, its output buffer and its scratch, the body leaves the output at `outB`, its
    counters at zero and nothing owed. -/
theorem run (K : GSem nD τ sig → ℕ) (c : Dev nD) (W : Waits sig Unit) (x0 : Vec F S2x256x512 .f32) (x2 x3 : Vec F S32x256x64 .bf16) (f5 : Vec F S2x256x512 .f32) :
    iprop(allI wq wo K ∗ levAts L lv ∗ ghost c ∗ owes (c : Thread nD τ) (O₀ c) W ∗ ins wq wo c x0 x2 x3 ∗ at' x5M fullShare c f5
      ∗ scr c ∗ slots 0 c ∗ slots 1 c ∗ slots 2 c)
    ⊢ wp frame (wpE (defs₀ (F := F)) 𝒱₀ (c : Thread nD τ) none) Set.univ (body (F := F)) (fun _ => (iprop((semVal (bar c) 0 ∗ zeros c) ∗ (∃ W', owes (c : Thread nD τ) 0 W')
      ∗ ins wq wo c x0 x2 x3 ∗ at' x5M fullShare c (accV (outB wq wo x0 x2 x3 c)) ∗ scr c ∗ slots 0 c ∗ slots 1 c ∗ slots 2 c) : sProp 𝕄)) := by
  unfold ins scr slots
  iintro ⟨#HI, #Hlev, HG, HO, ⟨H0, H1, H2, H3, H4⟩, H5, ⟨⟨%f6, H6⟩, ⟨%f7, H7⟩, ⟨%f8, H8⟩, ⟨%f9, H9⟩, ⟨%f13, H13⟩⟩,
    ⟨⟨%fs0, Hs0⟩, ⟨%fq0, Hq0⟩, ⟨%fo0, Ho0⟩⟩, ⟨⟨%fs1, Hs1⟩, ⟨%fq1, Hq1⟩, ⟨%fo1, Ho1⟩⟩, ⟨⟨%fs2, Hs2⟩, ⟨%fq2, Hq2⟩, ⟨%fo2, Ho2⟩⟩⟩
  ihave HG := (Entails.of_eq (ghost_eq c)) $$ HG
  unfold sig1 pair
  icases HG with ⟨⟨⟨#HB0, Ht0⟩, ⟨#HB1, Ht1⟩, ⟨#HB2, Ht2⟩⟩, HaB, HcB, HP0, HP1, HP2⟩
  icases HP0 with ⟨⟨Has20, Har20, #HRs20, #HRr20, Hts20, Htr20, Hcr20⟩, ⟨Has00, Har00, #HRs00, #HRr00, Hts00, Htr00, Hcr00⟩, ⟨Has10, Har10, #HRs10, #HRr10, Hts10, Htr10, Hcr10⟩⟩
  icases HP1 with ⟨⟨Has21, Har21, #HRs21, #HRr21, Hts21, Htr21, Hcr21⟩, ⟨Has01, Har01, #HRs01, #HRr01, Hts01, Htr01, Hcr01⟩, ⟨Has11, Har11, #HRs11, #HRr11, Hts11, Htr11, Hcr11⟩⟩
  icases HP2 with ⟨⟨Has22, Har22, #HRs22, #HRr22, Hts22, Htr22, Hcr22⟩, ⟨Has02, Har02, #HRs02, #HRr02, Hts02, Htr02, Hcr02⟩, ⟨Has12, Har12, #HRs12, #HRr12, Hts12, Htr12, Hcr12⟩⟩
  unfold body
  sl_exec_parts
  have e7 : wqM.view.read (Elt F) (wqM.view.writes (Elt F) f7 (run.sl.H7_1 wq c)) = wqM.view.read (Elt F) (qA wq c) := by
    unfold run.sl.H7_1 qA
    refine (View.read_writes_full _ _ _ _ _).trans ?_
    rw [View.readAt_full, View.read_whole, View.read_whole]
  have e8 : woM.view.read (Elt F) (woM.view.writes (Elt F) f8 (run.sl.H8_1 wo c)) = woM.view.read (Elt F) (oA wo c) := by
    unfold run.sl.H8_1 oA
    refine (View.read_writes_full _ _ _ _ _).trans ?_
    rw [View.readAt_full, View.read_whole, View.read_whole]

  have e9 : scM.view.read (Elt F) (scM.view.writes (Elt F) f9 (⟨Rect.unit ![1, 0] S1x256.size inb_S2x256_S1x256_1_0, run.sl.v41 wo c⟩ :: run.sl.H9_1 wq c)) = scM.view.read (Elt F) (sA wq wo c) := by
    have h : run.sl.v41 wo c = k0_pay8 (k0_pay5 (wo c)) := by
      unfold run.sl.v41 run.sl.v38 run.sl.r k0_pay8
      rw [View.readAt_full, View.read_whole]
    rw [h]
    unfold run.sl.H9_1
    refine (two_rows _ _ _).trans ?_
    rw [View.readAt_full, View.read_whole]
    exact (View.read_whole cc0_scratch3 (sA wq wo c)).symm
  ihave H7 := (Entails.of_eq (pts_of_read wqM fullShare c _ _ e7)) $$ H7
  ihave H8 := (Entails.of_eq (pts_of_read woM fullShare c _ _ e8)) $$ H8
  ihave H9 := (Entails.of_eq (pts_of_read scM fullShare c _ _ e9)) $$ H9
  ihave H7 := (lent wqM c (qA wq c)).1 $$ H7
  icases H7 with ⟨Hlq0, Hlq1, Hlq2, H7⟩
  ihave H8 := (lent woM c (oA wo c)).1 $$ H8
  icases H8 with ⟨Hlo0, Hlo1, Hlo2, H8⟩
  ihave H9 := (lent scM c (sA wq wo c)).1 $$ H9
  icases H9 with ⟨Hls0, Hls1, Hls2, H9⟩
  iapply (step_signal wq wo K c 0 (dev1 c) rfl ((owR c + tallyAt (bar (pr 2 c)) () 1) + tallyAt (bar (pr 1 c)) () 1) (O₀_eq c) _ _) $$ [HO Ht0 Hs2 Hq2 Ho2]
  · isplitr
    · iapply (allI_bar wq wo K (pr 0 c)); iexact HI
    isplitl [HO]; · iexact HO
    isplitl [Ht0]; · iexact Ht0
    isplitr; · iexact HB0
    isplitl [Hs2]; · iexists fs2; iexact Hs2
    isplitl [Hq2]; · iexists fq2; iexact Hq2
    isplitl [Ho2]; · iexists fo2; iexact Ho2
    isplitr; · iexact HRr22
    isplitr; · iexact HRr02
    iexact HRr12
  iintro HO
  sl_exec_parts
  iapply (step_signal wq wo K c 1 (dev2 c) rfl (owR c + tallyAt (bar (pr 2 c)) () 1) rfl _ _) $$ [HO Ht1 Hs1 Hq1 Ho1]
  · isplitr
    · iapply (allI_bar wq wo K (pr 1 c)); iexact HI
    isplitl [HO]; · iexact HO
    isplitl [Ht1]; · iexact Ht1
    isplitr; · iexact HB1
    isplitl [Hs1]; · iexists fs1; iexact Hs1
    isplitl [Hq1]; · iexists fq1; iexact Hq1
    isplitl [Ho1]; · iexists fo1; iexact Ho1
    isplitr; · iexact HRr21
    isplitr; · iexact HRr01
    iexact HRr11
  iintro HO
  sl_exec_parts
  iapply (step_signal wq wo K c 2 (dev3 c) rfl (owR c) rfl _ _) $$ [HO Ht2 Hs0 Hq0 Ho0]
  · isplitr
    · iapply (allI_bar wq wo K (pr 2 c)); iexact HI
    isplitl [HO]; · iexact HO
    isplitl [Ht2]; · iexact Ht2
    isplitr; · iexact HB2
    isplitl [Hs0]; · iexists fs0; iexact Hs0
    isplitl [Hq0]; · iexists fq0; iexact Hq0
    isplitl [Ho0]; · iexists fo0; iexact Ho0
    isplitr; · iexact HRr20
    isplitr; · iexact HRr00
    iexact HRr10
  iintro HO
  sl_exec_parts
  iapply (step_barrier wq wo K c rfl _ _) $$ [HcB HO HaB]
  · isplitr
    · iapply (allI_bar wq wo K c); iexact HI
    isplitl [HcB]; · iexact HcB
    isplitl [HO]; · iexact HO
    isplitr; · iexact Hlev
    iexact HaB
  unfold barPay
  iintro ⟨HO, HaB, ⟨⟨%gs2, Hs2⟩, ⟨%gq2, Hq2⟩, ⟨%go2, Ho2⟩, #Hr22, #Hr02, #Hr12⟩, ⟨⟨%gs1, Hs1⟩, ⟨%gq1, Hq1⟩, ⟨%go1, Ho1⟩, #Hr21, #Hr01, #Hr11⟩, ⟨⟨%gs0, Hs0⟩, ⟨%gq0, Hq0⟩, ⟨%go0, Ho0⟩, #Hr20, #Hr00, #Hr10⟩⟩
  sl_exec_parts
  rw [owR_eq]
  iapply (step_send_s wq wo K c 0 (dev4 c) (sS := ((cc0_scratch12.slice (Rect.unit (s := S3) ![0] S1.size inb_S3_S1_0)).squeeze S_ squeezes_S1_S_).sem) (sR := ((cc0_scratch13.slice (Rect.unit (s := S3) ![0] S1.size inb_S3_S1_0)).squeeze S_ squeezes_S1_S_).sem) rfl rfl (M := ((Memref.whole cc0_scratch6).slice (Rect.unit (s := S3x2x256) ![0, 0, 0] S1x2x256.size inb_S3x2x256_S1x2x256_0_0_0) (fun _ => rfl)).squeeze S2x256 squeezes_S1x2x256_S2x256) rfl _ rfl _ _) $$ [Hls0 Hs0 HO Hts20 Htr20]
  · isplitr
    · iapply (allI_snd wq wo K 2 0 c); iexact HI
    isplitr
    · iapply (allI_rcv wq wo K 2 0 (pr 0 c)); iexact HI
    isplitl [Hls0]; · iexact Hls0
    isplitl [Hs0]; · iexact Hs0
    isplitl [HO]; · iexact HO
    isplitl [Hts20]; · iexact Hts20
    isplitr; · iexact HRs20
    isplitl [Htr20]; · iexact Htr20
    iexact Hr20
  iintro ⟨Hcs20, HO⟩
  sl_exec_parts
  iapply (step_send_q wq wo K c 0 (dev5 c) (sS := ((cc0_scratch8.slice (Rect.unit (s := S3) ![0] S1.size inb_S3_S1_0)).squeeze S_ squeezes_S1_S_).sem) (sR := ((cc0_scratch9.slice (Rect.unit (s := S3) ![0] S1.size inb_S3_S1_0)).squeeze S_ squeezes_S1_S_).sem) rfl rfl (M := ((Memref.whole cc0_scratch4).slice (Rect.unit (s := S3x512x256) ![0, 0, 0] S1x512x256.size inb_S3x512x256_S1x512x256_0_0_0) (fun _ => rfl)).squeeze S512x256 squeezes_S1x512x256_S512x256) rfl _ rfl _ _) $$ [Hlq0 Hq0 HO Hts00 Htr00]
  · isplitr
    · iapply (allI_snd wq wo K 0 0 c); iexact HI
    isplitr
    · iapply (allI_rcv wq wo K 0 0 (pr 0 c)); iexact HI
    isplitl [Hlq0]; · iexact Hlq0
    isplitl [Hq0]; · iexact Hq0
    isplitl [HO]; · iexact HO
    isplitl [Hts00]; · iexact Hts00
    isplitr; · iexact HRs00
    isplitl [Htr00]; · iexact Htr00
    iexact Hr00
  iintro ⟨Hcs00, HO⟩
  sl_exec_parts
  iapply (step_send_o wq wo K c 0 (dev6 c) (sS := ((cc0_scratch10.slice (Rect.unit (s := S3) ![0] S1.size inb_S3_S1_0)).squeeze S_ squeezes_S1_S_).sem) (sR := ((cc0_scratch11.slice (Rect.unit (s := S3) ![0] S1.size inb_S3_S1_0)).squeeze S_ squeezes_S1_S_).sem) rfl rfl (M := ((Memref.whole cc0_scratch5).slice (Rect.unit (s := S3x256x512) ![0, 0, 0] S1x256x512.size inb_S3x256x512_S1x256x512_0_0_0) (fun _ => rfl)).squeeze S256x512 squeezes_S1x256x512_S256x512) rfl _ rfl _ _) $$ [Hlo0 Ho0 HO Hts10 Htr10]
  · isplitr
    · iapply (allI_snd wq wo K 1 0 c); iexact HI
    isplitr
    · iapply (allI_rcv wq wo K 1 0 (pr 0 c)); iexact HI
    isplitl [Hlo0]; · iexact Hlo0
    isplitl [Ho0]; · iexact Ho0
    isplitl [HO]; · iexact HO
    isplitl [Hts10]; · iexact Hts10
    isplitr; · iexact HRs10
    isplitl [Htr10]; · iexact Htr10
    iexact Hr10
  iintro ⟨Hcs10, HO⟩
  sl_exec_parts
  iapply (step_send_s wq wo K c 1 (dev7 c) (sS := ((cc0_scratch12.slice (Rect.unit (s := S3) ![1] S1.size inb_S3_S1_1)).squeeze S_ squeezes_S1_S_).sem) (sR := ((cc0_scratch13.slice (Rect.unit (s := S3) ![1] S1.size inb_S3_S1_1)).squeeze S_ squeezes_S1_S_).sem) rfl rfl (M := ((Memref.whole cc0_scratch6).slice (Rect.unit (s := S3x2x256) ![1, 0, 0] S1x2x256.size inb_S3x2x256_S1x2x256_1_0_0) (fun _ => rfl)).squeeze S2x256 squeezes_S1x2x256_S2x256) rfl _ rfl _ _) $$ [Hls1 Hs1 HO Hts21 Htr21]
  · isplitr
    · iapply (allI_snd wq wo K 2 1 c); iexact HI
    isplitr
    · iapply (allI_rcv wq wo K 2 1 (pr 1 c)); iexact HI
    isplitl [Hls1]; · iexact Hls1
    isplitl [Hs1]; · iexact Hs1
    isplitl [HO]; · iexact HO
    isplitl [Hts21]; · iexact Hts21
    isplitr; · iexact HRs21
    isplitl [Htr21]; · iexact Htr21
    iexact Hr21
  iintro ⟨Hcs21, HO⟩
  sl_exec_parts
  iapply (step_send_q wq wo K c 1 (dev8 c) (sS := ((cc0_scratch8.slice (Rect.unit (s := S3) ![1] S1.size inb_S3_S1_1)).squeeze S_ squeezes_S1_S_).sem) (sR := ((cc0_scratch9.slice (Rect.unit (s := S3) ![1] S1.size inb_S3_S1_1)).squeeze S_ squeezes_S1_S_).sem) rfl rfl (M := ((Memref.whole cc0_scratch4).slice (Rect.unit (s := S3x512x256) ![1, 0, 0] S1x512x256.size inb_S3x512x256_S1x512x256_1_0_0) (fun _ => rfl)).squeeze S512x256 squeezes_S1x512x256_S512x256) rfl _ rfl _ _) $$ [Hlq1 Hq1 HO Hts01 Htr01]
  · isplitr
    · iapply (allI_snd wq wo K 0 1 c); iexact HI
    isplitr
    · iapply (allI_rcv wq wo K 0 1 (pr 1 c)); iexact HI
    isplitl [Hlq1]; · iexact Hlq1
    isplitl [Hq1]; · iexact Hq1
    isplitl [HO]; · iexact HO
    isplitl [Hts01]; · iexact Hts01
    isplitr; · iexact HRs01
    isplitl [Htr01]; · iexact Htr01
    iexact Hr01
  iintro ⟨Hcs01, HO⟩
  sl_exec_parts
  iapply (step_send_o wq wo K c 1 (dev9 c) (sS := ((cc0_scratch10.slice (Rect.unit (s := S3) ![1] S1.size inb_S3_S1_1)).squeeze S_ squeezes_S1_S_).sem) (sR := ((cc0_scratch11.slice (Rect.unit (s := S3) ![1] S1.size inb_S3_S1_1)).squeeze S_ squeezes_S1_S_).sem) rfl rfl (M := ((Memref.whole cc0_scratch5).slice (Rect.unit (s := S3x256x512) ![1, 0, 0] S1x256x512.size inb_S3x256x512_S1x256x512_1_0_0) (fun _ => rfl)).squeeze S256x512 squeezes_S1x256x512_S256x512) rfl _ rfl _ _) $$ [Hlo1 Ho1 HO Hts11 Htr11]
  · isplitr
    · iapply (allI_snd wq wo K 1 1 c); iexact HI
    isplitr
    · iapply (allI_rcv wq wo K 1 1 (pr 1 c)); iexact HI
    isplitl [Hlo1]; · iexact Hlo1
    isplitl [Ho1]; · iexact Ho1
    isplitl [HO]; · iexact HO
    isplitl [Hts11]; · iexact Hts11
    isplitr; · iexact HRs11
    isplitl [Htr11]; · iexact Htr11
    iexact Hr11
  iintro ⟨Hcs11, HO⟩
  sl_exec_parts
  iapply (step_send_s wq wo K c 2 (dev10 c) (sS := ((cc0_scratch12.slice (Rect.unit (s := S3) ![2] S1.size inb_S3_S1_2)).squeeze S_ squeezes_S1_S_).sem) (sR := ((cc0_scratch13.slice (Rect.unit (s := S3) ![2] S1.size inb_S3_S1_2)).squeeze S_ squeezes_S1_S_).sem) rfl rfl (M := ((Memref.whole cc0_scratch6).slice (Rect.unit (s := S3x2x256) ![2, 0, 0] S1x2x256.size inb_S3x2x256_S1x2x256_2_0_0) (fun _ => rfl)).squeeze S2x256 squeezes_S1x2x256_S2x256) rfl _ rfl _ _) $$ [Hls2 Hs2 HO Hts22 Htr22]
  · isplitr
    · iapply (allI_snd wq wo K 2 2 c); iexact HI
    isplitr
    · iapply (allI_rcv wq wo K 2 2 (pr 2 c)); iexact HI
    isplitl [Hls2]; · iexact Hls2
    isplitl [Hs2]; · iexact Hs2
    isplitl [HO]; · iexact HO
    isplitl [Hts22]; · iexact Hts22
    isplitr; · iexact HRs22
    isplitl [Htr22]; · iexact Htr22
    iexact Hr22
  iintro ⟨Hcs22, HO⟩
  sl_exec_parts
  iapply (step_send_q wq wo K c 2 (dev11 c) (sS := ((cc0_scratch8.slice (Rect.unit (s := S3) ![2] S1.size inb_S3_S1_2)).squeeze S_ squeezes_S1_S_).sem) (sR := ((cc0_scratch9.slice (Rect.unit (s := S3) ![2] S1.size inb_S3_S1_2)).squeeze S_ squeezes_S1_S_).sem) rfl rfl (M := ((Memref.whole cc0_scratch4).slice (Rect.unit (s := S3x512x256) ![2, 0, 0] S1x512x256.size inb_S3x512x256_S1x512x256_2_0_0) (fun _ => rfl)).squeeze S512x256 squeezes_S1x512x256_S512x256) rfl _ rfl _ _) $$ [Hlq2 Hq2 HO Hts02 Htr02]
  · isplitr
    · iapply (allI_snd wq wo K 0 2 c); iexact HI
    isplitr
    · iapply (allI_rcv wq wo K 0 2 (pr 2 c)); iexact HI
    isplitl [Hlq2]; · iexact Hlq2
    isplitl [Hq2]; · iexact Hq2
    isplitl [HO]; · iexact HO
    isplitl [Hts02]; · iexact Hts02
    isplitr; · iexact HRs02
    isplitl [Htr02]; · iexact Htr02
    iexact Hr02
  iintro ⟨Hcs02, HO⟩
  sl_exec_parts
  iapply (step_send_o wq wo K c 2 (dev12 c) (sS := ((cc0_scratch10.slice (Rect.unit (s := S3) ![2] S1.size inb_S3_S1_2)).squeeze S_ squeezes_S1_S_).sem) (sR := ((cc0_scratch11.slice (Rect.unit (s := S3) ![2] S1.size inb_S3_S1_2)).squeeze S_ squeezes_S1_S_).sem) rfl rfl (M := ((Memref.whole cc0_scratch5).slice (Rect.unit (s := S3x256x512) ![2, 0, 0] S1x256x512.size inb_S3x256x512_S1x256x512_2_0_0) (fun _ => rfl)).squeeze S256x512 squeezes_S1x256x512_S256x512) rfl _ rfl _ _) $$ [Hlo2 Ho2 HO Hts12 Htr12]
  · isplitr
    · iapply (allI_snd wq wo K 1 2 c); iexact HI
    isplitr
    · iapply (allI_rcv wq wo K 1 2 (pr 2 c)); iexact HI
    isplitl [Hlo2]; · iexact Hlo2
    isplitl [Ho2]; · iexact Ho2
    isplitl [HO]; · iexact HO
    isplitl [Hts12]; · iexact Hts12
    isplitr; · iexact HRs12
    isplitl [Htr12]; · iexact Htr12
    iexact Hr12
  iintro ⟨Hcs12, HO⟩
  sl_exec_parts
  have hq : run.sl.r_4 wq wo c x0 = qOf (xbA x0) (qA wq c) (k0_pay7 (wq c)) :=
    congr (congr (congrArg k0_pay13 (sc_row0 wq wo c _)) (congrArg (sitofp .bf16) ((View.readAt_full wqM.view (qA wq c) _).trans (View.read_whole cc0_scratch1 (qA wq c)))))
      ((View.readAt_full xbM.view (xbM.view.writes (Elt F) xbM.view.junk (run.sl.H6_2 x0)) _).trans (xb_read x0 _))
  have hk0 := k_load x2 c 0 (off_own c).1 (k0_off1_inb c 0)
  have hk1 := k_load x2 c 1 (off_own c).2 (k0_off1_inb c 1)
  have hv0 := v_load x3 c 0 (off_own c).1 (k0_off1_inb c 0)
  have hv1 := v_load x3 c 1 (off_own c).2 (k0_off1_inb c 1)
  have hL : ([⟨Rect.unit ![1, 0, 0] S1x256x512.size inb_S2x256x512_S1x256x512_1_0_0, k0_pay35 (run.sl.r_2 wq wo c)
          (woM.view.readAt (Elt F) (Rect.unit ![0, 0] S256x512.size inb_S256x512_S256x512_0_0).toLoadRect (oA wo c)) (run.sl.v341 wq wo c x0 x2 x3)⟩,
        ⟨Rect.unit ![0, 0, 0] S1x256x512.size inb_S2x256x512_S1x256x512_0_0_0, k0_pay34 (run.sl.r_2 wq wo c)
          (woM.view.readAt (Elt F) (Rect.unit ![0, 0] S256x512.size inb_S256x512_S256x512_0_0).toLoadRect (oA wo c)) (run.sl.v332 wq wo c x0 x2 x3)⟩] : List (View.Piece (Elt F) S2x256x512 .f32))
      = accL (partD wq wo x0 x2 x3 c) :=
    out_eq (k0_pay8 (k0_pay5 (wo c))) (sitofp .bf16 (oA wo c)) (ctxRow (ctxG (headAt (qOf (xbA x0) (qA wq c) (k0_pay7 (wq c))) (kvW x2 c) (kvW x3 c))))
      (sc_row1 wq wo c _) (congrArg (sitofp .bf16) ((View.readAt_full woM.view (oA wo c) _).trans (View.read_whole cc0_scratch2 (oA wo c))))
      (row_load hq hk0 hk1 hv0 hv1 0 _) (row_load hq hk0 hk1 hv0 hv1 1 _)
  ihave H6 := (name_it xbM c (xbM.view.writes (Elt F) f6 (run.sl.H6_2 x0)) (xbA x0) ((xb_read x0 f6).trans (xb_whole x0))) $$ H6
  icases H6 with ⟨%g6, %e6, H6⟩
  ihave H5 := (name_it x5M c _ (accV (partD wq wo x0 x2 x3 c)) (acc_pts f5 hL)) $$ H5
  icases H5 with ⟨%g50, %e50, H5⟩
  ihave H13 := (name_it ctM c _ _ rfl) $$ H13
  icases H13 with ⟨%g130, -, H13⟩
  iapply (step_landing wq wo K c 2 0 (n := (((Memref.whole cc0_scratch6).slice (Rect.unit (s := S3x2x256) ![0, 0, 0] S1x2x256.size inb_S3x2x256_S1x2x256_0_0_0) (fun _ => rfl)).squeeze S2x256 squeezes_S1x2x256_S2x256).view.dmaCredit) rfl (fun Q => wpE_waitDma2_eq (src := scM) (dst := ((Memref.whole cc0_scratch6).slice (Rect.unit (s := S3x2x256) ![0, 0, 0] S1x2x256.size inb_S3x2x256_S1x2x256_0_0_0) (fun _ => rfl)).squeeze S2x256 squeezes_S1x2x256_S2x256) 𝒱₀ (c : Thread nD τ) none Set.univ Q) _ _) $$ [Hcr20 HO Har20]
  · isplitr
    · iapply (allI_rcv wq wo K 2 0 c); iexact HI
    iframe
  iintro ⟨HO, Har20, Hs0⟩
  ihave Hs0 := (Entails.of_eq (show (rcvPay wq wo 2 0 c : sProp 𝕄) = at' (((Memref.whole cc0_scratch6).slice (Rect.unit (s := S3x2x256) ![0, 0, 0] S1x2x256.size inb_S3x2x256_S1x2x256_0_0_0) (fun _ => rfl)).squeeze S2x256 squeezes_S1x2x256_S2x256) fullShare c (up (sA wq wo (pr 2 c))) from rfl)) $$ Hs0
  sl_exec_parts
  iapply (step_landing wq wo K c 0 0 (n := (((Memref.whole cc0_scratch4).slice (Rect.unit (s := S3x512x256) ![0, 0, 0] S1x512x256.size inb_S3x512x256_S1x512x256_0_0_0) (fun _ => rfl)).squeeze S512x256 squeezes_S1x512x256_S512x256).view.dmaCredit) rfl (fun Q => wpE_waitDma2_eq (src := wqM) (dst := ((Memref.whole cc0_scratch4).slice (Rect.unit (s := S3x512x256) ![0, 0, 0] S1x512x256.size inb_S3x512x256_S1x512x256_0_0_0) (fun _ => rfl)).squeeze S512x256 squeezes_S1x512x256_S512x256) 𝒱₀ (c : Thread nD τ) none Set.univ Q) _ _) $$ [Hcr00 HO Har00]
  · isplitr
    · iapply (allI_rcv wq wo K 0 0 c); iexact HI
    iframe
  iintro ⟨HO, Har00, Hq0⟩
  ihave Hq0 := (Entails.of_eq (show (rcvPay wq wo 0 0 c : sProp 𝕄) = at' (((Memref.whole cc0_scratch4).slice (Rect.unit (s := S3x512x256) ![0, 0, 0] S1x512x256.size inb_S3x512x256_S1x512x256_0_0_0) (fun _ => rfl)).squeeze S512x256 squeezes_S1x512x256_S512x256) fullShare c (up (qA wq (pr 2 c))) from rfl)) $$ Hq0
  sl_exec_parts
  iapply (step_landing wq wo K c 1 0 (n := (((Memref.whole cc0_scratch5).slice (Rect.unit (s := S3x256x512) ![0, 0, 0] S1x256x512.size inb_S3x256x512_S1x256x512_0_0_0) (fun _ => rfl)).squeeze S256x512 squeezes_S1x256x512_S256x512).view.dmaCredit) rfl (fun Q => wpE_waitDma2_eq (src := woM) (dst := ((Memref.whole cc0_scratch5).slice (Rect.unit (s := S3x256x512) ![0, 0, 0] S1x256x512.size inb_S3x256x512_S1x256x512_0_0_0) (fun _ => rfl)).squeeze S256x512 squeezes_S1x256x512_S256x512) 𝒱₀ (c : Thread nD τ) none Set.univ Q) _ _) $$ [Hcr10 HO Har10]
  · isplitr
    · iapply (allI_rcv wq wo K 1 0 c); iexact HI
    iframe
  iintro ⟨HO, Har10, Ho0⟩
  ihave Ho0 := (Entails.of_eq (show (rcvPay wq wo 1 0 c : sProp 𝕄) = at' (((Memref.whole cc0_scratch5).slice (Rect.unit (s := S3x256x512) ![0, 0, 0] S1x256x512.size inb_S3x256x512_S1x256x512_0_0_0) (fun _ => rfl)).squeeze S256x512 squeezes_S1x256x512_S256x512) fullShare c (up (oA wo (pr 2 c))) from rfl)) $$ Ho0
  sl_exec_parts
  have hq : run.sl.r_16 wq wo c g6 = qOf (xbA x0) (qA wq (pr 2 c)) (k0_pay7 (wq (pr 2 c))) :=
    qOf_eq (s_slot0 wq wo 0 (pr 2 c) inb_S3x2x256_S1x1x256_0_0_0) (q_slot 0 (qA wq (pr 2 c)) inb_S3x512x256_S1x512x256_0_0_0)
      ((View.readAt_full xbM.view g6 _).trans ((View.read_whole cc0_scratch0 g6).trans e6))
  have hk0 := k_load x2 (pr 2 c) 0 (off_slot0 c).1 (k0_off2_inb c 0 0)
  have hk1 := k_load x2 (pr 2 c) 1 (off_slot0 c).2 (k0_off2_inb c 1 0)
  have hv0 := v_load x3 (pr 2 c) 0 (off_slot0 c).1 (k0_off2_inb c 0 0)
  have hv1 := v_load x3 (pr 2 c) 1 (off_slot0 c).2 (k0_off2_inb c 1 0)
  have hL : ([⟨Rect.unit ![1, 0, 0] S1x256x512.size inb_S2x256x512_S1x256x512_1_0_0,
          k0_pay61 (run.sl.r_15 wq wo c) (run.sl.r_29 wo c) (run.sl.v568 wq wo c x2 x3 g6) (run.sl.v574 g50)⟩,
        ⟨Rect.unit ![0, 0, 0] S1x256x512.size inb_S2x256x512_S1x256x512_0_0_0,
          k0_pay60 (run.sl.r_15 wq wo c) (run.sl.r_29 wo c) (run.sl.v556 wq wo c x2 x3 g6)
            (x5M.view.readAt (Elt F) (Rect.unit (s := S2x256x512) ![0, 0, 0] S1x256x512.size inb_S2x256x512_S1x256x512_0_0_0).toLoadRect g50)⟩] : List (View.Piece (Elt F) S2x256x512 .f32))
      = accL (fun b => addf (partD wq wo x0 x2 x3 c b) (partD wq wo x0 x2 x3 (pr 2 c) b)) :=
    add_eq (partD wq wo x0 x2 x3 c) (k0_pay8 (k0_pay5 (wo (pr 2 c)))) (sitofp .bf16 (oA wo (pr 2 c))) (ctxRow (ctxG (headAt (qOf (xbA x0) (qA wq (pr 2 c)) (k0_pay7 (wq (pr 2 c)))) (kvW x2 (pr 2 c)) (kvW x3 (pr 2 c)))))
      (s_slot1 wq wo 0 (pr 2 c) inb_S3x2x256_S1x1x256_0_1_0) (congrArg (sitofp .bf16) (o_slot 0 (oA wo (pr 2 c)) inb_S3x256x512_S1x256x512_0_0_0))
      (row_load hq hk0 hk1 hv0 hv1 0 _) (row_load hq hk0 hk1 hv0 hv1 1 _)
      ((congrArg (fun g => shapeCast S256x512 (x5M.view.readAt (Elt F) (Rect.unit (s := S2x256x512) ![0, 0, 0] S1x256x512.size inb_S2x256x512_S1x256x512_0_0_0).toLoadRect g) shapeCasts_S1x256x512_S256x512) e50).trans (acc_row (partD wq wo x0 x2 x3 c) 0 inb_S2x256x512_S1x256x512_0_0_0))
      ((congrArg (fun g => shapeCast S256x512 (x5M.view.readAt (Elt F) (Rect.unit (s := S2x256x512) ![1, 0, 0] S1x256x512.size inb_S2x256x512_S1x256x512_1_0_0).toLoadRect g) shapeCasts_S1x256x512_S256x512) e50).trans (acc_row (partD wq wo x0 x2 x3 c) 1 inb_S2x256x512_S1x256x512_1_0_0))
  ihave H5 := (name_it x5M c _ (accV (fun b => addf (partD wq wo x0 x2 x3 c b) (partD wq wo x0 x2 x3 (pr 2 c) b))) (acc_pts g50 hL)) $$ H5
  icases H5 with ⟨%g51, %e51, H5⟩
  ihave H13 := (name_it ctM c _ _ rfl) $$ H13
  icases H13 with ⟨%g131, -, H13⟩
  iapply (step_landing wq wo K c 2 2 (n := (((Memref.whole cc0_scratch6).slice (Rect.unit (s := S3x2x256) ![2, 0, 0] S1x2x256.size inb_S3x2x256_S1x2x256_2_0_0) (fun _ => rfl)).squeeze S2x256 squeezes_S1x2x256_S2x256).view.dmaCredit) rfl (fun Q => wpE_waitDma2_eq (src := scM) (dst := ((Memref.whole cc0_scratch6).slice (Rect.unit (s := S3x2x256) ![2, 0, 0] S1x2x256.size inb_S3x2x256_S1x2x256_2_0_0) (fun _ => rfl)).squeeze S2x256 squeezes_S1x2x256_S2x256) 𝒱₀ (c : Thread nD τ) none Set.univ Q) _ _) $$ [Hcr22 HO Har22]
  · isplitr
    · iapply (allI_rcv wq wo K 2 2 c); iexact HI
    iframe
  iintro ⟨HO, Har22, Hs2⟩
  ihave Hs2 := (Entails.of_eq (show (rcvPay wq wo 2 2 c : sProp 𝕄) = at' (((Memref.whole cc0_scratch6).slice (Rect.unit (s := S3x2x256) ![2, 0, 0] S1x2x256.size inb_S3x2x256_S1x2x256_2_0_0) (fun _ => rfl)).squeeze S2x256 squeezes_S1x2x256_S2x256) fullShare c (up (sA wq wo (pr 0 c))) from rfl)) $$ Hs2
  sl_exec_parts
  iapply (step_landing wq wo K c 0 2 (n := (((Memref.whole cc0_scratch4).slice (Rect.unit (s := S3x512x256) ![2, 0, 0] S1x512x256.size inb_S3x512x256_S1x512x256_2_0_0) (fun _ => rfl)).squeeze S512x256 squeezes_S1x512x256_S512x256).view.dmaCredit) rfl (fun Q => wpE_waitDma2_eq (src := wqM) (dst := ((Memref.whole cc0_scratch4).slice (Rect.unit (s := S3x512x256) ![2, 0, 0] S1x512x256.size inb_S3x512x256_S1x512x256_2_0_0) (fun _ => rfl)).squeeze S512x256 squeezes_S1x512x256_S512x256) 𝒱₀ (c : Thread nD τ) none Set.univ Q) _ _) $$ [Hcr02 HO Har02]
  · isplitr
    · iapply (allI_rcv wq wo K 0 2 c); iexact HI
    iframe
  iintro ⟨HO, Har02, Hq2⟩
  ihave Hq2 := (Entails.of_eq (show (rcvPay wq wo 0 2 c : sProp 𝕄) = at' (((Memref.whole cc0_scratch4).slice (Rect.unit (s := S3x512x256) ![2, 0, 0] S1x512x256.size inb_S3x512x256_S1x512x256_2_0_0) (fun _ => rfl)).squeeze S512x256 squeezes_S1x512x256_S512x256) fullShare c (up (qA wq (pr 0 c))) from rfl)) $$ Hq2
  sl_exec_parts
  iapply (step_landing wq wo K c 1 2 (n := (((Memref.whole cc0_scratch5).slice (Rect.unit (s := S3x256x512) ![2, 0, 0] S1x256x512.size inb_S3x256x512_S1x256x512_2_0_0) (fun _ => rfl)).squeeze S256x512 squeezes_S1x256x512_S256x512).view.dmaCredit) rfl (fun Q => wpE_waitDma2_eq (src := woM) (dst := ((Memref.whole cc0_scratch5).slice (Rect.unit (s := S3x256x512) ![2, 0, 0] S1x256x512.size inb_S3x256x512_S1x256x512_2_0_0) (fun _ => rfl)).squeeze S256x512 squeezes_S1x256x512_S256x512) 𝒱₀ (c : Thread nD τ) none Set.univ Q) _ _) $$ [Hcr12 HO Har12]
  · isplitr
    · iapply (allI_rcv wq wo K 1 2 c); iexact HI
    iframe
  iintro ⟨HO, Har12, Ho2⟩
  ihave Ho2 := (Entails.of_eq (show (rcvPay wq wo 1 2 c : sProp 𝕄) = at' (((Memref.whole cc0_scratch5).slice (Rect.unit (s := S3x256x512) ![2, 0, 0] S1x256x512.size inb_S3x256x512_S1x256x512_2_0_0) (fun _ => rfl)).squeeze S256x512 squeezes_S1x256x512_S256x512) fullShare c (up (oA wo (pr 0 c))) from rfl)) $$ Ho2
  sl_exec_parts
  have hq : run.sl.r_31 wq wo c g6 = qOf (xbA x0) (qA wq (pr 0 c)) (k0_pay7 (wq (pr 0 c))) :=
    qOf_eq (s_slot0 wq wo 2 (pr 0 c) inb_S3x2x256_S1x1x256_2_0_0) (q_slot 2 (qA wq (pr 0 c)) inb_S3x512x256_S1x512x256_2_0_0)
      ((View.readAt_full xbM.view g6 _).trans ((View.read_whole cc0_scratch0 g6).trans e6))
  have hk0 := k_load x2 (pr 0 c) 0 (off_slot2 c).1 (k0_off2_inb c 0 2)
  have hk1 := k_load x2 (pr 0 c) 1 (off_slot2 c).2 (k0_off2_inb c 1 2)
  have hv0 := v_load x3 (pr 0 c) 0 (off_slot2 c).1 (k0_off2_inb c 0 2)
  have hv1 := v_load x3 (pr 0 c) 1 (off_slot2 c).2 (k0_off2_inb c 1 2)
  have hL : ([⟨Rect.unit ![1, 0, 0] S1x256x512.size inb_S2x256x512_S1x256x512_1_0_0,
          k0_pay86 (run.sl.r_30 wq wo c) (run.sl.r_43 wo c) (run.sl.v798 wq wo c x2 x3 g6) (run.sl.v804 g51)⟩,
        ⟨Rect.unit ![0, 0, 0] S1x256x512.size inb_S2x256x512_S1x256x512_0_0_0,
          k0_pay85 (run.sl.r_30 wq wo c) (run.sl.r_43 wo c) (run.sl.v786 wq wo c x2 x3 g6)
            (x5M.view.readAt (Elt F) (Rect.unit (s := S2x256x512) ![0, 0, 0] S1x256x512.size inb_S2x256x512_S1x256x512_0_0_0).toLoadRect g51)⟩] : List (View.Piece (Elt F) S2x256x512 .f32))
      = accL (fun b => addf (addf (partD wq wo x0 x2 x3 c b) (partD wq wo x0 x2 x3 (pr 2 c) b)) (partD wq wo x0 x2 x3 (pr 0 c) b)) :=
    add_eq (fun b => addf (partD wq wo x0 x2 x3 c b) (partD wq wo x0 x2 x3 (pr 2 c) b)) (k0_pay8 (k0_pay5 (wo (pr 0 c)))) (sitofp .bf16 (oA wo (pr 0 c))) (ctxRow (ctxG (headAt (qOf (xbA x0) (qA wq (pr 0 c)) (k0_pay7 (wq (pr 0 c)))) (kvW x2 (pr 0 c)) (kvW x3 (pr 0 c)))))
      (s_slot1 wq wo 2 (pr 0 c) inb_S3x2x256_S1x1x256_2_1_0) (congrArg (sitofp .bf16) (o_slot 2 (oA wo (pr 0 c)) inb_S3x256x512_S1x256x512_2_0_0))
      (row_load hq hk0 hk1 hv0 hv1 0 _) (row_load hq hk0 hk1 hv0 hv1 1 _)
      ((congrArg (fun g => shapeCast S256x512 (x5M.view.readAt (Elt F) (Rect.unit (s := S2x256x512) ![0, 0, 0] S1x256x512.size inb_S2x256x512_S1x256x512_0_0_0).toLoadRect g) shapeCasts_S1x256x512_S256x512) e51).trans (acc_row (fun b => addf (partD wq wo x0 x2 x3 c b) (partD wq wo x0 x2 x3 (pr 2 c) b)) 0 inb_S2x256x512_S1x256x512_0_0_0))
      ((congrArg (fun g => shapeCast S256x512 (x5M.view.readAt (Elt F) (Rect.unit (s := S2x256x512) ![1, 0, 0] S1x256x512.size inb_S2x256x512_S1x256x512_1_0_0).toLoadRect g) shapeCasts_S1x256x512_S256x512) e51).trans (acc_row (fun b => addf (partD wq wo x0 x2 x3 c b) (partD wq wo x0 x2 x3 (pr 2 c) b)) 1 inb_S2x256x512_S1x256x512_1_0_0))
  ihave H5 := (name_it x5M c _ (accV (fun b => addf (addf (partD wq wo x0 x2 x3 c b) (partD wq wo x0 x2 x3 (pr 2 c) b)) (partD wq wo x0 x2 x3 (pr 0 c) b))) (acc_pts g51 hL)) $$ H5
  icases H5 with ⟨%g52, %e52, H5⟩
  ihave H13 := (name_it ctM c _ _ rfl) $$ H13
  icases H13 with ⟨%g132, -, H13⟩
  iapply (step_landing wq wo K c 2 1 (n := (((Memref.whole cc0_scratch6).slice (Rect.unit (s := S3x2x256) ![1, 0, 0] S1x2x256.size inb_S3x2x256_S1x2x256_1_0_0) (fun _ => rfl)).squeeze S2x256 squeezes_S1x2x256_S2x256).view.dmaCredit) rfl (fun Q => wpE_waitDma2_eq (src := scM) (dst := ((Memref.whole cc0_scratch6).slice (Rect.unit (s := S3x2x256) ![1, 0, 0] S1x2x256.size inb_S3x2x256_S1x2x256_1_0_0) (fun _ => rfl)).squeeze S2x256 squeezes_S1x2x256_S2x256) 𝒱₀ (c : Thread nD τ) none Set.univ Q) _ _) $$ [Hcr21 HO Har21]
  · isplitr
    · iapply (allI_rcv wq wo K 2 1 c); iexact HI
    iframe
  iintro ⟨HO, Har21, Hs1⟩
  ihave Hs1 := (Entails.of_eq (show (rcvPay wq wo 2 1 c : sProp 𝕄) = at' (((Memref.whole cc0_scratch6).slice (Rect.unit (s := S3x2x256) ![1, 0, 0] S1x2x256.size inb_S3x2x256_S1x2x256_1_0_0) (fun _ => rfl)).squeeze S2x256 squeezes_S1x2x256_S2x256) fullShare c (up (sA wq wo (pr 1 c))) from rfl)) $$ Hs1
  sl_exec_parts
  iapply (step_landing wq wo K c 0 1 (n := (((Memref.whole cc0_scratch4).slice (Rect.unit (s := S3x512x256) ![1, 0, 0] S1x512x256.size inb_S3x512x256_S1x512x256_1_0_0) (fun _ => rfl)).squeeze S512x256 squeezes_S1x512x256_S512x256).view.dmaCredit) rfl (fun Q => wpE_waitDma2_eq (src := wqM) (dst := ((Memref.whole cc0_scratch4).slice (Rect.unit (s := S3x512x256) ![1, 0, 0] S1x512x256.size inb_S3x512x256_S1x512x256_1_0_0) (fun _ => rfl)).squeeze S512x256 squeezes_S1x512x256_S512x256) 𝒱₀ (c : Thread nD τ) none Set.univ Q) _ _) $$ [Hcr01 HO Har01]
  · isplitr
    · iapply (allI_rcv wq wo K 0 1 c); iexact HI
    iframe
  iintro ⟨HO, Har01, Hq1⟩
  ihave Hq1 := (Entails.of_eq (show (rcvPay wq wo 0 1 c : sProp 𝕄) = at' (((Memref.whole cc0_scratch4).slice (Rect.unit (s := S3x512x256) ![1, 0, 0] S1x512x256.size inb_S3x512x256_S1x512x256_1_0_0) (fun _ => rfl)).squeeze S512x256 squeezes_S1x512x256_S512x256) fullShare c (up (qA wq (pr 1 c))) from rfl)) $$ Hq1
  sl_exec_parts
  iapply (step_landing wq wo K c 1 1 (n := (((Memref.whole cc0_scratch5).slice (Rect.unit (s := S3x256x512) ![1, 0, 0] S1x256x512.size inb_S3x256x512_S1x256x512_1_0_0) (fun _ => rfl)).squeeze S256x512 squeezes_S1x256x512_S256x512).view.dmaCredit) rfl (fun Q => wpE_waitDma2_eq (src := woM) (dst := ((Memref.whole cc0_scratch5).slice (Rect.unit (s := S3x256x512) ![1, 0, 0] S1x256x512.size inb_S3x256x512_S1x256x512_1_0_0) (fun _ => rfl)).squeeze S256x512 squeezes_S1x256x512_S256x512) 𝒱₀ (c : Thread nD τ) none Set.univ Q) _ _) $$ [Hcr11 HO Har11]
  · isplitr
    · iapply (allI_rcv wq wo K 1 1 c); iexact HI
    iframe
  iintro ⟨HO, Har11, Ho1⟩
  ihave Ho1 := (Entails.of_eq (show (rcvPay wq wo 1 1 c : sProp 𝕄) = at' (((Memref.whole cc0_scratch5).slice (Rect.unit (s := S3x256x512) ![1, 0, 0] S1x256x512.size inb_S3x256x512_S1x256x512_1_0_0) (fun _ => rfl)).squeeze S256x512 squeezes_S1x256x512_S256x512) fullShare c (up (oA wo (pr 1 c))) from rfl)) $$ Ho1
  sl_exec_parts
  have hq : run.sl.r_45 wq wo c g6 = qOf (xbA x0) (qA wq (pr 1 c)) (k0_pay7 (wq (pr 1 c))) :=
    qOf_eq (s_slot0 wq wo 1 (pr 1 c) inb_S3x2x256_S1x1x256_1_0_0) (q_slot 1 (qA wq (pr 1 c)) inb_S3x512x256_S1x512x256_1_0_0)
      ((View.readAt_full xbM.view g6 _).trans ((View.read_whole cc0_scratch0 g6).trans e6))
  have hk0 := k_load x2 (pr 1 c) 0 (off_slot1 c).1 (k0_off2_inb c 0 1)
  have hk1 := k_load x2 (pr 1 c) 1 (off_slot1 c).2 (k0_off2_inb c 1 1)
  have hv0 := v_load x3 (pr 1 c) 0 (off_slot1 c).1 (k0_off2_inb c 0 1)
  have hv1 := v_load x3 (pr 1 c) 1 (off_slot1 c).2 (k0_off2_inb c 1 1)
  have hL : ([⟨Rect.unit ![1, 0, 0] S1x256x512.size inb_S2x256x512_S1x256x512_1_0_0,
          k0_pay110 (run.sl.r_44 wq wo c) (run.sl.r_57 wo c) (run.sl.v1028 wq wo c x2 x3 g6) (run.sl.v1034 g52)⟩,
        ⟨Rect.unit ![0, 0, 0] S1x256x512.size inb_S2x256x512_S1x256x512_0_0_0,
          k0_pay109 (run.sl.r_44 wq wo c) (run.sl.r_57 wo c) (run.sl.v1016 wq wo c x2 x3 g6)
            (x5M.view.readAt (Elt F) (Rect.unit (s := S2x256x512) ![0, 0, 0] S1x256x512.size inb_S2x256x512_S1x256x512_0_0_0).toLoadRect g52)⟩] : List (View.Piece (Elt F) S2x256x512 .f32))
      = accL (outB wq wo x0 x2 x3 c) :=
    add_eq (fun b => addf (addf (partD wq wo x0 x2 x3 c b) (partD wq wo x0 x2 x3 (pr 2 c) b)) (partD wq wo x0 x2 x3 (pr 0 c) b)) (k0_pay8 (k0_pay5 (wo (pr 1 c)))) (sitofp .bf16 (oA wo (pr 1 c))) (ctxRow (ctxG (headAt (qOf (xbA x0) (qA wq (pr 1 c)) (k0_pay7 (wq (pr 1 c)))) (kvW x2 (pr 1 c)) (kvW x3 (pr 1 c)))))
      (s_slot1 wq wo 1 (pr 1 c) inb_S3x2x256_S1x1x256_1_1_0) (congrArg (sitofp .bf16) (o_slot 1 (oA wo (pr 1 c)) inb_S3x256x512_S1x256x512_1_0_0))
      (row_load hq hk0 hk1 hv0 hv1 0 _) (row_load hq hk0 hk1 hv0 hv1 1 _)
      ((congrArg (fun g => shapeCast S256x512 (x5M.view.readAt (Elt F) (Rect.unit (s := S2x256x512) ![0, 0, 0] S1x256x512.size inb_S2x256x512_S1x256x512_0_0_0).toLoadRect g) shapeCasts_S1x256x512_S256x512) e52).trans (acc_row (fun b => addf (addf (partD wq wo x0 x2 x3 c b) (partD wq wo x0 x2 x3 (pr 2 c) b)) (partD wq wo x0 x2 x3 (pr 0 c) b)) 0 inb_S2x256x512_S1x256x512_0_0_0))
      ((congrArg (fun g => shapeCast S256x512 (x5M.view.readAt (Elt F) (Rect.unit (s := S2x256x512) ![1, 0, 0] S1x256x512.size inb_S2x256x512_S1x256x512_1_0_0).toLoadRect g) shapeCasts_S1x256x512_S256x512) e52).trans (acc_row (fun b => addf (addf (partD wq wo x0 x2 x3 c b) (partD wq wo x0 x2 x3 (pr 2 c) b)) (partD wq wo x0 x2 x3 (pr 0 c) b)) 1 inb_S2x256x512_S1x256x512_1_0_0))
  ihave H5 := (name_it x5M c _ (accV (outB wq wo x0 x2 x3 c)) (acc_pts g52 hL)) $$ H5
  icases H5 with ⟨%g53, %e53, H5⟩
  ihave H13 := (name_it ctM c _ _ rfl) $$ H13
  icases H13 with ⟨%g133, -, H13⟩
  iapply (step_departure wq wo K c 2 0 (n := (scM).view.dmaCredit) rfl (fun Q => wpE_waitDma2_eq (src := ((Memref.whole cc0_scratch6).slice (Rect.unit (s := S3x2x256) ![0, 0, 0] S1x2x256.size inb_S3x2x256_S1x2x256_0_0_0) (fun _ => rfl)).squeeze S2x256 squeezes_S1x2x256_S2x256) (dst := scM) 𝒱₀ (c : Thread nD τ) none Set.univ Q) _ _) $$ [Hcs20 HO Has20]
  · isplitr
    · iapply (allI_snd wq wo K 2 0 c); iexact HI
    iframe
  iintro ⟨HO, Has20, Hls0⟩
  sl_exec_parts
  iapply (step_departure wq wo K c 0 0 (n := (wqM).view.dmaCredit) rfl (fun Q => wpE_waitDma2_eq (src := ((Memref.whole cc0_scratch4).slice (Rect.unit (s := S3x512x256) ![0, 0, 0] S1x512x256.size inb_S3x512x256_S1x512x256_0_0_0) (fun _ => rfl)).squeeze S512x256 squeezes_S1x512x256_S512x256) (dst := wqM) 𝒱₀ (c : Thread nD τ) none Set.univ Q) _ _) $$ [Hcs00 HO Has00]
  · isplitr
    · iapply (allI_snd wq wo K 0 0 c); iexact HI
    iframe
  iintro ⟨HO, Has00, Hlq0⟩
  sl_exec_parts
  iapply (step_departure wq wo K c 1 0 (n := (woM).view.dmaCredit) rfl (fun Q => wpE_waitDma2_eq (src := ((Memref.whole cc0_scratch5).slice (Rect.unit (s := S3x256x512) ![0, 0, 0] S1x256x512.size inb_S3x256x512_S1x256x512_0_0_0) (fun _ => rfl)).squeeze S256x512 squeezes_S1x256x512_S256x512) (dst := woM) 𝒱₀ (c : Thread nD τ) none Set.univ Q) _ _) $$ [Hcs10 HO Has10]
  · isplitr
    · iapply (allI_snd wq wo K 1 0 c); iexact HI
    iframe
  iintro ⟨HO, Has10, Hlo0⟩
  sl_exec_parts
  iapply (step_departure wq wo K c 2 1 (n := (scM).view.dmaCredit) rfl (fun Q => wpE_waitDma2_eq (src := ((Memref.whole cc0_scratch6).slice (Rect.unit (s := S3x2x256) ![1, 0, 0] S1x2x256.size inb_S3x2x256_S1x2x256_1_0_0) (fun _ => rfl)).squeeze S2x256 squeezes_S1x2x256_S2x256) (dst := scM) 𝒱₀ (c : Thread nD τ) none Set.univ Q) _ _) $$ [Hcs21 HO Has21]
  · isplitr
    · iapply (allI_snd wq wo K 2 1 c); iexact HI
    iframe
  iintro ⟨HO, Has21, Hls1⟩
  sl_exec_parts
  iapply (step_departure wq wo K c 0 1 (n := (wqM).view.dmaCredit) rfl (fun Q => wpE_waitDma2_eq (src := ((Memref.whole cc0_scratch4).slice (Rect.unit (s := S3x512x256) ![1, 0, 0] S1x512x256.size inb_S3x512x256_S1x512x256_1_0_0) (fun _ => rfl)).squeeze S512x256 squeezes_S1x512x256_S512x256) (dst := wqM) 𝒱₀ (c : Thread nD τ) none Set.univ Q) _ _) $$ [Hcs01 HO Has01]
  · isplitr
    · iapply (allI_snd wq wo K 0 1 c); iexact HI
    iframe
  iintro ⟨HO, Has01, Hlq1⟩
  sl_exec_parts
  iapply (step_departure wq wo K c 1 1 (n := (woM).view.dmaCredit) rfl (fun Q => wpE_waitDma2_eq (src := ((Memref.whole cc0_scratch5).slice (Rect.unit (s := S3x256x512) ![1, 0, 0] S1x256x512.size inb_S3x256x512_S1x256x512_1_0_0) (fun _ => rfl)).squeeze S256x512 squeezes_S1x256x512_S256x512) (dst := woM) 𝒱₀ (c : Thread nD τ) none Set.univ Q) _ _) $$ [Hcs11 HO Has11]
  · isplitr
    · iapply (allI_snd wq wo K 1 1 c); iexact HI
    iframe
  iintro ⟨HO, Has11, Hlo1⟩
  sl_exec_parts
  iapply (step_departure wq wo K c 2 2 (n := (scM).view.dmaCredit) rfl (fun Q => wpE_waitDma2_eq (src := ((Memref.whole cc0_scratch6).slice (Rect.unit (s := S3x2x256) ![2, 0, 0] S1x2x256.size inb_S3x2x256_S1x2x256_2_0_0) (fun _ => rfl)).squeeze S2x256 squeezes_S1x2x256_S2x256) (dst := scM) 𝒱₀ (c : Thread nD τ) none Set.univ Q) _ _) $$ [Hcs22 HO Has22]
  · isplitr
    · iapply (allI_snd wq wo K 2 2 c); iexact HI
    iframe
  iintro ⟨HO, Has22, Hls2⟩
  sl_exec_parts
  iapply (step_departure wq wo K c 0 2 (n := (wqM).view.dmaCredit) rfl (fun Q => wpE_waitDma2_eq (src := ((Memref.whole cc0_scratch4).slice (Rect.unit (s := S3x512x256) ![2, 0, 0] S1x512x256.size inb_S3x512x256_S1x512x256_2_0_0) (fun _ => rfl)).squeeze S512x256 squeezes_S1x512x256_S512x256) (dst := wqM) 𝒱₀ (c : Thread nD τ) none Set.univ Q) _ _) $$ [Hcs02 HO Has02]
  · isplitr
    · iapply (allI_snd wq wo K 0 2 c); iexact HI
    iframe
  iintro ⟨HO, Has02, Hlq2⟩
  sl_exec_parts
  iapply (step_departure wq wo K c 1 2 (n := (woM).view.dmaCredit) rfl (fun Q => wpE_waitDma2_eq (src := ((Memref.whole cc0_scratch5).slice (Rect.unit (s := S3x256x512) ![2, 0, 0] S1x256x512.size inb_S3x256x512_S1x256x512_2_0_0) (fun _ => rfl)).squeeze S256x512 squeezes_S1x256x512_S256x512) (dst := woM) 𝒱₀ (c : Thread nD τ) none Set.univ Q) _ _) $$ [Hcs12 HO Has12]
  · isplitr
    · iapply (allI_snd wq wo K 1 2 c); iexact HI
    iframe
  iintro ⟨HO, Has12, Hlo2⟩
  sl_exec_parts
  rw [wp_ret]
  imod (close wq wo K (bar c)) $$ [HaB] with Vb
  · isplitr
    · iapply (allI_bar wq wo K c); iexact HI
    iexact HaB
  imod (close_pair wq wo K 2 0 c) $$ [Has20 Har20] with V20
  · iframe
    iexact HI
  imod (close_pair wq wo K 0 0 c) $$ [Has00 Har00] with V00
  · iframe
    iexact HI
  imod (close_pair wq wo K 1 0 c) $$ [Has10 Har10] with V10
  · iframe
    iexact HI
  imod (close_pair wq wo K 2 1 c) $$ [Has21 Har21] with V21
  · iframe
    iexact HI
  imod (close_pair wq wo K 0 1 c) $$ [Has01 Har01] with V01
  · iframe
    iexact HI
  imod (close_pair wq wo K 1 1 c) $$ [Has11 Har11] with V11
  · iframe
    iexact HI
  imod (close_pair wq wo K 2 2 c) $$ [Has22 Har22] with V22
  · iframe
    iexact HI
  imod (close_pair wq wo K 0 2 c) $$ [Has02 Har02] with V02
  · iframe
    iexact HI
  imod (close_pair wq wo K 1 2 c) $$ [Has12 Har12] with V12
  · iframe
    iexact HI
  imodintro
  ihave H7 := (whole_q wq wo c) $$ [Hlq0 Hlq1 Hlq2 H7]
  · iframe
  ihave H8 := (whole_o wq wo c) $$ [Hlo0 Hlo1 Hlo2 H8]
  · iframe
  ihave H9 := (whole_s wq wo c) $$ [Hls0 Hls1 Hls2 H9]
  · iframe
  subst e53
  rw [zeros_eq]
  ihave Hs0 := (Entails.of_eq (show (at' (((Memref.whole cc0_scratch6).slice (Rect.unit (s := S3x2x256) ![0, 0, 0] S1x2x256.size inb_S3x2x256_S1x2x256_0_0_0) (fun _ => rfl)).squeeze S2x256 squeezes_S1x2x256_S2x256) fullShare c (up (sA wq wo (pr 2 c))) : sProp 𝕄) = sPts 0 c (up (sA wq wo (pr 2 c))) from rfl)) $$ Hs0
  ihave Hq0 := (Entails.of_eq (show (at' (((Memref.whole cc0_scratch4).slice (Rect.unit (s := S3x512x256) ![0, 0, 0] S1x512x256.size inb_S3x512x256_S1x512x256_0_0_0) (fun _ => rfl)).squeeze S512x256 squeezes_S1x512x256_S512x256) fullShare c (up (qA wq (pr 2 c))) : sProp 𝕄) = qPts 0 c (up (qA wq (pr 2 c))) from rfl)) $$ Hq0
  ihave Ho0 := (Entails.of_eq (show (at' (((Memref.whole cc0_scratch5).slice (Rect.unit (s := S3x256x512) ![0, 0, 0] S1x256x512.size inb_S3x256x512_S1x256x512_0_0_0) (fun _ => rfl)).squeeze S256x512 squeezes_S1x256x512_S256x512) fullShare c (up (oA wo (pr 2 c))) : sProp 𝕄) = oPts 0 c (up (oA wo (pr 2 c))) from rfl)) $$ Ho0
  ihave Hs1 := (Entails.of_eq (show (at' (((Memref.whole cc0_scratch6).slice (Rect.unit (s := S3x2x256) ![1, 0, 0] S1x2x256.size inb_S3x2x256_S1x2x256_1_0_0) (fun _ => rfl)).squeeze S2x256 squeezes_S1x2x256_S2x256) fullShare c (up (sA wq wo (pr 1 c))) : sProp 𝕄) = sPts 1 c (up (sA wq wo (pr 1 c))) from rfl)) $$ Hs1
  ihave Hq1 := (Entails.of_eq (show (at' (((Memref.whole cc0_scratch4).slice (Rect.unit (s := S3x512x256) ![1, 0, 0] S1x512x256.size inb_S3x512x256_S1x512x256_1_0_0) (fun _ => rfl)).squeeze S512x256 squeezes_S1x512x256_S512x256) fullShare c (up (qA wq (pr 1 c))) : sProp 𝕄) = qPts 1 c (up (qA wq (pr 1 c))) from rfl)) $$ Hq1
  ihave Ho1 := (Entails.of_eq (show (at' (((Memref.whole cc0_scratch5).slice (Rect.unit (s := S3x256x512) ![1, 0, 0] S1x256x512.size inb_S3x256x512_S1x256x512_1_0_0) (fun _ => rfl)).squeeze S256x512 squeezes_S1x256x512_S256x512) fullShare c (up (oA wo (pr 1 c))) : sProp 𝕄) = oPts 1 c (up (oA wo (pr 1 c))) from rfl)) $$ Ho1
  ihave Hs2 := (Entails.of_eq (show (at' (((Memref.whole cc0_scratch6).slice (Rect.unit (s := S3x2x256) ![2, 0, 0] S1x2x256.size inb_S3x2x256_S1x2x256_2_0_0) (fun _ => rfl)).squeeze S2x256 squeezes_S1x2x256_S2x256) fullShare c (up (sA wq wo (pr 0 c))) : sProp 𝕄) = sPts 2 c (up (sA wq wo (pr 0 c))) from rfl)) $$ Hs2
  ihave Hq2 := (Entails.of_eq (show (at' (((Memref.whole cc0_scratch4).slice (Rect.unit (s := S3x512x256) ![2, 0, 0] S1x512x256.size inb_S3x512x256_S1x512x256_2_0_0) (fun _ => rfl)).squeeze S512x256 squeezes_S1x512x256_S512x256) fullShare c (up (qA wq (pr 0 c))) : sProp 𝕄) = qPts 2 c (up (qA wq (pr 0 c))) from rfl)) $$ Hq2
  ihave Ho2 := (Entails.of_eq (show (at' (((Memref.whole cc0_scratch5).slice (Rect.unit (s := S3x256x512) ![2, 0, 0] S1x256x512.size inb_S3x256x512_S1x256x512_2_0_0) (fun _ => rfl)).squeeze S256x512 squeezes_S1x256x512_S256x512) fullShare c (up (oA wo (pr 0 c))) : sProp 𝕄) = oPts 2 c (up (oA wo (pr 0 c))) from rfl)) $$ Ho2
  isplitl [Vb V20 V00 V10 V21 V01 V11 V22 V02 V12]; · iframe
  isplitl [HO]; · iexists _; iexact HO
  isplitl [H0 H1 H2 H3 H4]; · iframe
  isplitl [H5]; · iexact H5
  isplitl [H6 H7 H8 H9 H13]
  · isplitl [H6]; · iexists _; iexact H6
    isplitl [H7]; · iexists _; iexact H7
    isplitl [H8]; · iexists _; iexact H8
    isplitl [H9]; · iexists _; iexact H9
    iexists _; iexact H13
  isplitl [Hs0 Hq0 Ho0]
  · isplitl [Hs0]; · iexists up (sA wq wo (pr 2 c)); iexact Hs0
    isplitl [Hq0]; · iexists up (qA wq (pr 2 c)); iexact Hq0
    iexists up (oA wo (pr 2 c)); iexact Ho0
  isplitl [Hs1 Hq1 Ho1]
  · isplitl [Hs1]; · iexists up (sA wq wo (pr 1 c)); iexact Hs1
    isplitl [Hq1]; · iexists up (qA wq (pr 1 c)); iexact Hq1
    iexists up (oA wo (pr 1 c)); iexact Ho1
  isplitl [Hs2]; · iexists up (sA wq wo (pr 0 c)); iexact Hs2
  isplitl [Hq2]; · iexists up (qA wq (pr 0 c)); iexact Hq2
  iexists up (oA wo (pr 0 c)); iexact Ho2

end Cert.KernelIdeal.Talk

end
-- ==== Proof.Slots.lean ====
/- The landing arrays, held slot by slot and joined again. -/
module

public import proofs.«01_k».proof.Proof.Body
public import Idealize.ShloMosaic.Lib.Ring

@[expose] public section

noncomputable section

namespace Cert.KernelIdeal.Talk

open Idealize.ShloMosaic Idealize.ShloMosaic.TcCoe Idealize.ShloMosaic.Ring
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- The slabs of a three-slot array: pairwise disjoint, and together all of it. -/
theorem slab_disj (a b : ℕ) (inb : ∀ j : Fin 3, ∀ x, (![j.val, 0, 0] : Fin 3 → Nat) x + (![1, a, b] : Fin 3 → Nat) x ≤ (⟨3, ![3, a, b]⟩ : Shape).size x)
    (j k : Fin 3) (h : j ≠ k) : Disjoint (Rect.unit (s := ⟨3, ![3, a, b]⟩) ![j.val, 0, 0] ![1, a, b] (inb j)).set
      (Rect.unit (s := ⟨3, ![3, a, b]⟩) ![k.val, 0, 0] ![1, a, b] (inb k)).set := by
  rw [Finset.disjoint_left]
  intro i hi hk
  rw [Rect.mem_set_unit] at hi hk
  have h1 : j.val ≤ (i 0 : ℕ) ∧ (i 0 : ℕ) < j.val + 1 := hi 0
  have h2 : k.val ≤ (i 0 : ℕ) ∧ (i 0 : ℕ) < k.val + 1 := hk 0
  exact h (Fin.ext (by omega))
theorem slab_all (a b : ℕ) (inb : ∀ j : Fin 3, ∀ x, (![j.val, 0, 0] : Fin 3 → Nat) x + (![1, a, b] : Fin 3 → Nat) x ≤ (⟨3, ![3, a, b]⟩ : Shape).size x) :
    (Finset.univ.biUnion fun j : Fin 3 => (Rect.unit (s := ⟨3, ![3, a, b]⟩) ![j.val, 0, 0] ![1, a, b] (inb j)).set) = Finset.univ := by
  ext i
  refine iff_of_true (Finset.mem_biUnion.mpr ⟨(i 0 : Fin 3), Finset.mem_univ _, ?_⟩) (Finset.mem_univ i)
  rw [Rect.mem_set_unit]
  intro x
  have h1 : (i 1 : ℕ) < a := (i 1).isLt
  have h2 : (i 2 : ℕ) < b := (i 2).isLt
  match x with
  | ⟨0, _⟩ => exact ⟨Nat.le_refl (i 0 : ℕ), Nat.lt_succ_self (i 0 : ℕ)⟩
  | ⟨1, _⟩ => exact ⟨Nat.zero_le _, by show (i 1 : ℕ) < 0 + a; omega⟩
  | ⟨2, _⟩ => exact ⟨Nat.zero_le _, by show (i 2 : ℕ) < 0 + b; omega⟩

/-- One slot's elements are its slab. -/
theorem qSet (j : Fin 3) : (qSlot j).view.set = (Rect.unit (s := ⟨3, ![3, 512, 256]⟩) ![j.val, 0, 0] ![1, 512, 256] (inbQ j)).set :=
  (View.set_reshape _ _).trans (View.set_slice_whole _ _)
/-- The array whole is its three slots, and three slots make the array. -/
theorem qWhole (c : Dev nD) (f : Vec F S3x512x256 .i8) : (((c : Thread nD τ).loc cc0_scratch4) ↦{fullShare} f : sProp 𝕄) = bigSep Finset.univ fun j : Fin 3 => qPts j c f :=
  pointsTo_blocks (ℓ := (c : Thread nD τ).loc cc0_scratch4) (fun j : Fin 3 => (qSlot j).view.set)
    (fun j k h => by rw [qSet, qSet]; exact slab_disj 512 256 inbQ j k h)
    ((congrArg _ (funext qSet)).trans (slab_all 512 256 inbQ)) f
theorem qSplit (c : Dev nD) (f : Vec F S3x512x256 .i8) : (((c : Thread nD τ).loc cc0_scratch4) ↦{fullShare} f : sProp 𝕄)
    ⊢ iprop((∃ f, qPts 0 c f) ∗ (∃ f, qPts 1 c f) ∗ ∃ f, qPts 2 c f) := by
  rw [qWhole, bigSep3]
  iintro ⟨H0, H1, H2⟩
  isplitl [H0]; · iexists f; iexact H0
  isplitl [H1]; · iexists f; iexact H1
  iexists f; iexact H2
theorem qJoin (c : Dev nD) : (iprop((∃ f, qPts 0 c f) ∗ (∃ f, qPts 1 c f) ∗ ∃ f, qPts 2 c f) : sProp 𝕄)
    ⊢ iprop(∃ f : Buf (Elt F) ((c : Thread nD τ).loc cc0_scratch4), ((c : Thread nD τ).loc cc0_scratch4) ↦{fullShare} f) := by
  iintro ⟨⟨%f, H0⟩, H1, H2⟩
  iapply (pointsTo_blocks_join_exists (fun j : Fin 3 => (qSlot j).view.set)
    (fun j k h => by rw [qSet, qSet]; exact slab_disj 512 256 inbQ j k h)
    ((congrArg _ (funext qSet)).trans (slab_all 512 256 inbQ)) f)
  iapply (Entails.of_eq (bigSep3 fun j : Fin 3 => (iprop(∃ f, qPts j c f) : sProp 𝕄)).symm)
  isplitl [H0]; · iexists f; iexact H0
  isplitl [H1] <;> iassumption

/-- One slot's elements are its slab. -/
theorem oSet (j : Fin 3) : (oSlot j).view.set = (Rect.unit (s := ⟨3, ![3, 256, 512]⟩) ![j.val, 0, 0] ![1, 256, 512] (inbO j)).set :=
  (View.set_reshape _ _).trans (View.set_slice_whole _ _)
/-- The array whole is its three slots, and three slots make the array. -/
theorem oWhole (c : Dev nD) (f : Vec F S3x256x512 .i8) : (((c : Thread nD τ).loc cc0_scratch5) ↦{fullShare} f : sProp 𝕄) = bigSep Finset.univ fun j : Fin 3 => oPts j c f :=
  pointsTo_blocks (ℓ := (c : Thread nD τ).loc cc0_scratch5) (fun j : Fin 3 => (oSlot j).view.set)
    (fun j k h => by rw [oSet, oSet]; exact slab_disj 256 512 inbO j k h)
    ((congrArg _ (funext oSet)).trans (slab_all 256 512 inbO)) f
theorem oSplit (c : Dev nD) (f : Vec F S3x256x512 .i8) : (((c : Thread nD τ).loc cc0_scratch5) ↦{fullShare} f : sProp 𝕄)
    ⊢ iprop((∃ f, oPts 0 c f) ∗ (∃ f, oPts 1 c f) ∗ ∃ f, oPts 2 c f) := by
  rw [oWhole, bigSep3]
  iintro ⟨H0, H1, H2⟩
  isplitl [H0]; · iexists f; iexact H0
  isplitl [H1]; · iexists f; iexact H1
  iexists f; iexact H2
theorem oJoin (c : Dev nD) : (iprop((∃ f, oPts 0 c f) ∗ (∃ f, oPts 1 c f) ∗ ∃ f, oPts 2 c f) : sProp 𝕄)
    ⊢ iprop(∃ f : Buf (Elt F) ((c : Thread nD τ).loc cc0_scratch5), ((c : Thread nD τ).loc cc0_scratch5) ↦{fullShare} f) := by
  iintro ⟨⟨%f, H0⟩, H1, H2⟩
  iapply (pointsTo_blocks_join_exists (fun j : Fin 3 => (oSlot j).view.set)
    (fun j k h => by rw [oSet, oSet]; exact slab_disj 256 512 inbO j k h)
    ((congrArg _ (funext oSet)).trans (slab_all 256 512 inbO)) f)
  iapply (Entails.of_eq (bigSep3 fun j : Fin 3 => (iprop(∃ f, oPts j c f) : sProp 𝕄)).symm)
  isplitl [H0]; · iexists f; iexact H0
  isplitl [H1] <;> iassumption

/-- One slot's elements are its slab. -/
theorem sSet (j : Fin 3) : (sSlot j).view.set = (Rect.unit (s := ⟨3, ![3, 2, 256]⟩) ![j.val, 0, 0] ![1, 2, 256] (inbS j)).set :=
  (View.set_reshape _ _).trans (View.set_slice_whole _ _)
/-- The array whole is its three slots, and three slots make the array. -/
theorem sWhole (c : Dev nD) (f : Vec F S3x2x256 .f32) : (((c : Thread nD τ).loc cc0_scratch6) ↦{fullShare} f : sProp 𝕄) = bigSep Finset.univ fun j : Fin 3 => sPts j c f :=
  pointsTo_blocks (ℓ := (c : Thread nD τ).loc cc0_scratch6) (fun j : Fin 3 => (sSlot j).view.set)
    (fun j k h => by rw [sSet, sSet]; exact slab_disj 2 256 inbS j k h)
    ((congrArg _ (funext sSet)).trans (slab_all 2 256 inbS)) f
theorem sSplit (c : Dev nD) (f : Vec F S3x2x256 .f32) : (((c : Thread nD τ).loc cc0_scratch6) ↦{fullShare} f : sProp 𝕄)
    ⊢ iprop((∃ f, sPts 0 c f) ∗ (∃ f, sPts 1 c f) ∗ ∃ f, sPts 2 c f) := by
  rw [sWhole, bigSep3]
  iintro ⟨H0, H1, H2⟩
  isplitl [H0]; · iexists f; iexact H0
  isplitl [H1]; · iexists f; iexact H1
  iexists f; iexact H2
theorem sJoin (c : Dev nD) : (iprop((∃ f, sPts 0 c f) ∗ (∃ f, sPts 1 c f) ∗ ∃ f, sPts 2 c f) : sProp 𝕄)
    ⊢ iprop(∃ f : Buf (Elt F) ((c : Thread nD τ).loc cc0_scratch6), ((c : Thread nD τ).loc cc0_scratch6) ↦{fullShare} f) := by
  iintro ⟨⟨%f, H0⟩, H1, H2⟩
  iapply (pointsTo_blocks_join_exists (fun j : Fin 3 => (sSlot j).view.set)
    (fun j k h => by rw [sSet, sSet]; exact slab_disj 2 256 inbS j k h)
    ((congrArg _ (funext sSet)).trans (slab_all 2 256 inbS)) f)
  iapply (Entails.of_eq (bigSep3 fun j : Fin 3 => (iprop(∃ f, sPts j c f) : sProp 𝕄)).symm)
  isplitl [H0]; · iexists f; iexact H0
  isplitl [H1] <;> iassumption

/-- A whole buffer, as the body names it. -/
theorem wholeAt (b : Ref sig .tc) (c : Dev nD) (f : Buf (Elt F) ((c : Thread nD τ).loc b)) :
    (((c : Thread nD τ).loc b) ↦{fullShare} f : sProp 𝕄) = ((Memref.whole b).view.loc (c : Thread nD τ) ↦[(Memref.whole b).view.set]{fullShare} f) := by
  rw [show (Memref.whole b).view.set = Finset.univ from View.set_whole b]

/-- The scoped buffers no window stages: the scratch the body fills and the slots of the landing arrays. -/
theorem rest_split (c : Dev nD) : (Pipeline.scopedRest (Ix := Unit) (Name := ℕ) (U := UU) (Lvl := ℕ) (Val := Elt F) spec0 c : sProp 𝕄)
    ⊢ iprop(scr c ∗ slots 0 c ∗ slots 1 c ∗ slots 2 c) := by
  rw [scopedRest0_eq]
  unfold scr slots
  iintro ⟨⟨%f0, H0⟩, ⟨%f1, H1⟩, ⟨%f2, H2⟩, ⟨%f3, H3⟩, ⟨%f4, H4⟩, ⟨%f5, H5⟩, ⟨%f6, H6⟩, ⟨%f7, H7⟩⟩
  ihave H4 := (qSplit c f4) $$ H4
  icases H4 with ⟨Q0, Q1, Q2⟩
  ihave H5 := (oSplit c f5) $$ H5
  icases H5 with ⟨O0, O1, O2⟩
  ihave H6 := (sSplit c f6) $$ H6
  icases H6 with ⟨S0, S1, S2⟩
  isplitl [H0 H1 H2 H3 H7]
  · isplitl [H0]; · iexists f0; iapply (Entails.of_eq (wholeAt cc0_scratch0 c f0)) $$ H0
    isplitl [H1]; · iexists f1; iapply (Entails.of_eq (wholeAt cc0_scratch1 c f1)) $$ H1
    isplitl [H2]; · iexists f2; iapply (Entails.of_eq (wholeAt cc0_scratch2 c f2)) $$ H2
    isplitl [H3]; · iexists f3; iapply (Entails.of_eq (wholeAt cc0_scratch3 c f3)) $$ H3
    iexists f7; iapply (Entails.of_eq (wholeAt cc0_scratch7 c f7)) $$ H7
  isplitl [S0 Q0 O0]
  · isplitl [S0]; · iexact S0
    isplitl [Q0] <;> iassumption
  isplitl [S1 Q1 O1]
  · isplitl [S1]; · iexact S1
    isplitl [Q1] <;> iassumption
  isplitl [S2]; · iexact S2
  isplitl [Q2] <;> iassumption
theorem rest_join (c : Dev nD) : (iprop(scr c ∗ slots 0 c ∗ slots 1 c ∗ slots 2 c) : sProp 𝕄)
    ⊢ Pipeline.scopedRest (Ix := Unit) (Name := ℕ) (U := UU) (Lvl := ℕ) (Val := Elt F) spec0 c := by
  rw [scopedRest0_eq]
  unfold scr slots
  iintro ⟨⟨⟨%f0, H0⟩, ⟨%f1, H1⟩, ⟨%f2, H2⟩, ⟨%f3, H3⟩, ⟨%f7, H7⟩⟩, ⟨S0, Q0, O0⟩, ⟨S1, Q1, O1⟩, ⟨S2, Q2, O2⟩⟩
  isplitl [H0]; · iexists f0; iapply (Entails.of_eq (wholeAt cc0_scratch0 c f0).symm) $$ H0
  isplitl [H1]; · iexists f1; iapply (Entails.of_eq (wholeAt cc0_scratch1 c f1).symm) $$ H1
  isplitl [H2]; · iexists f2; iapply (Entails.of_eq (wholeAt cc0_scratch2 c f2).symm) $$ H2
  isplitl [H3]; · iexists f3; iapply (Entails.of_eq (wholeAt cc0_scratch3 c f3).symm) $$ H3
  isplitl [Q0 Q1 Q2]
  · iapply (qJoin c)
    isplitl [Q0]; · iexact Q0
    isplitl [Q1] <;> iassumption
  isplitl [O0 O1 O2]
  · iapply (oJoin c)
    isplitl [O0]; · iexact O0
    isplitl [O1] <;> iassumption
  isplitl [S0 S1 S2]
  · iapply (sJoin c)
    isplitl [S0]; · iexact S0
    isplitl [S1] <;> iassumption
  iexists f7; iapply (Entails.of_eq (wholeAt cc0_scratch7 c f7).symm) $$ H7

end Cert.KernelIdeal.Talk

end
-- ==== Proof.Region.lean ====
/- The kernel's region: what it is entered with, what its one point does, and what it leaves. -/
module

public import proofs.«01_k».proof.Proof.Slots
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.ValueKit

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The operands -/

/-- The two weight blocks every device launches with. -/
def argWq (d : Dev nD) : Vec F S512x256 .f32 := m ((d : Thread nD τ).loc main_arg1)
def argWo (d : Dev nD) : Vec F S256x512 .f32 := m ((d : Thread nD τ).loc main_arg4)
/-- The device's block of x, and the keys and values its host code lays out for it. -/
def opX (c : Dev nD) : Vec F S2x256x512 .f32 := m ((c : Thread nD τ).loc main_arg0)
def opK (c : Dev nD) : Vec F S32x256x64 .bf16 := V1 m c (Proc.devRef .tc main_v17)
def opV (c : Dev nD) : Vec F S32x256x64 .bf16 := V1 m c (Proc.devRef .tc main_v20)
/-- What the kernel leaves in the result's block. -/
def result (c : Dev nD) : Vec F S2x256x512 .f32 := accV (outB (argWq m) (argWo m) (opX m c) (opK m c) (opV m c) c)

/-! ## The region's proof data -/

/-- The rights one transfer pair lies dormant with, until its counters come. -/
def dorm (a j : Fin 3) (c : Dev nD) : sProp 𝕄 :=
  iprop((openTok ER (snd a j c) ∗ openTok ER (rcv a j c)) ∗ (dutyTok ER (snd a j c) 0 0 ∗ dutyTok ER (rcv a j (pr j c)) 0 0) ∗ cred (tallyAt (rcv a j c) () (N a)))
/-- What the launch keeps for the kernel, -/
def Tk (c : Dev nD) : sProp 𝕄 :=
  iprop(∃ K, allI (argWq m) (argWo m) K ∗ (bigSep Finset.univ fun k : Fin 3 => sig1 k c) ∗ atPos ER (bar c) 0 ∅ 0 ∗ cred (tallyAt (bar c) () 3)
    ∗ bigSep Finset.univ fun j : Fin 3 => bigSep Finset.univ fun a : Fin 3 => dorm a j c)
/-- the same with every cell open, -/
def Xk (c : Dev nD) : sProp 𝕄 := iprop(∃ K, allI (argWq m) (argWo m) K ∗ levAts L lv ∗ ghost c)
/-- and what the kernel keeps at the end. -/
def Yk (c : Dev nD) : sProp 𝕄 := semVal (bar c) 0
/-- The scratch and the landing slots. -/
def room (c : Dev nD) : sProp 𝕄 := iprop(scr c ∗ slots 0 c ∗ slots 1 c ∗ slots 2 c)

def Φ₀ (c : Dev nD) : sProp 𝕄 := iprop(Xk m c ∗ room c ∗ ∃ r, prngReg c r)
def Φ₁ (c : Dev nD) : sProp 𝕄 := iprop((Yk c ∗ zeros c) ∗ room c ∗ ∃ r, prngReg c r)

/-- The data of the kernel's pipeline on device c. -/
def dats (_ : Fin 1) (c : Dev nD) : Dat τ (Elt F) Unit ℕ UU ℕ cfg0 c where
  A w := V1 m c (Proc.devRef .tc (Pipeline.arrRef spec0 w))
  after w _ := match w with
    | ⟨0, _⟩ => opX m c
    | ⟨1, _⟩ => argWq m c
    | ⟨2, _⟩ => opK m c
    | ⟨3, _⟩ => opV m c
    | ⟨4, _⟩ => argWo m c
    | ⟨5, _⟩ => result m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owesAt_intro (c : Dev nD) (t : Fin (cfg0.N + 1)) (O : CellTallies nD τ sig Unit) (h0 : (dats m 0 c).owed t = O) (W : Waits sig Unit) :
    (owes (c : Thread nD τ) O W : sProp 𝕄) ⊢ ((dats m 0 c).owesAt () t : sProp 𝕄) := by
  unfold Dat.owesAt Pipeline.owesWithin Dat.bound; rw [h0]
  iintro HO; iexists W; isplitr; · ipureintro; exact fun _ _ => Or.inl trivial
  iexact HO
theorem owesAt_elim (c : Dev nD) (t : Fin (cfg0.N + 1)) (O : CellTallies nD τ sig Unit) (h0 : (dats m 0 c).owed t = O) :
    ((dats m 0 c).owesAt () t : sProp 𝕄) ⊢ iprop(∃ W, owes (c : Thread nD τ) O W) := by
  unfold Dat.owesAt Pipeline.owesWithin; rw [h0]
  iintro ⟨%W, -, HO⟩; iexists W; iexact HO

/-! ## Every window's block is its whole array -/

theorem ix0 (t : Fin grid0.N) : ∀ a, win0_0.index t a = 0 := by revert t; decide +kernel
theorem ix1 (t : Fin grid0.N) : ∀ a, win0_1.index t a = 0 := by revert t; decide +kernel
theorem ix2 (t : Fin grid0.N) : ∀ a, win0_2.index t a = 0 := by revert t; decide +kernel
theorem ix3 (t : Fin grid0.N) : ∀ a, win0_3.index t a = 0 := by revert t; decide +kernel
theorem ix4 (t : Fin grid0.N) : ∀ a, win0_4.index t a = 0 := by revert t; decide +kernel
theorem ix5 (t : Fin grid0.N) : ∀ a, win0_5.index t a = 0 := by revert t; decide +kernel
theorem read0 (t : Fin cfg0.N) (A : Vec F S2x256x512 .f32) : ((cfg0.win 0).blk t).view.read (Elt F) A = A := by
  funext x; refine congrArg A ?_; rw [fin_N0 t]
  blk_ext [ix0 t0_0]
theorem read1 (t : Fin cfg0.N) (A : Vec F S512x256 .f32) : ((cfg0.win 1).blk t).view.read (Elt F) A = A := by
  funext x; refine congrArg A ?_; rw [fin_N0 t]
  blk_ext [ix1 t0_0]
theorem read2 (t : Fin cfg0.N) (A : Vec F S32x256x64 .bf16) : ((cfg0.win 2).blk t).view.read (Elt F) A = A := by
  funext x; refine congrArg A ?_; rw [fin_N0 t]
  blk_ext [ix2 t0_0]
theorem read3 (t : Fin cfg0.N) (A : Vec F S32x256x64 .bf16) : ((cfg0.win 3).blk t).view.read (Elt F) A = A := by
  funext x; refine congrArg A ?_; rw [fin_N0 t]
  blk_ext [ix3 t0_0]
theorem read4 (t : Fin cfg0.N) (A : Vec F S256x512 .f32) : ((cfg0.win 4).blk t).view.read (Elt F) A = A := by
  funext x; refine congrArg A ?_; rw [fin_N0 t]
  blk_ext [ix4 t0_0]
theorem read5 (t : Fin cfg0.N) (A : Vec F S2x256x512 .f32) : ((cfg0.win 5).blk t).view.read (Elt F) A = A := by
  funext x; refine congrArg A ?_; rw [fin_N0 t]
  blk_ext [ix5 t0_0]

theorem before0 (c : Dev nD) (t : Fin cfg0.N) (d) : (dats m 0 c).before 0 t d = opX m c := by
  unfold Dat.before; rw [if_pos (fetch0_0 t)]
  exact (read0 (F := F) t _).trans (V1_of m c main_arg0 (by decide))
theorem before1 (c : Dev nD) (t : Fin cfg0.N) (d) : (dats m 0 c).before 1 t d = argWq m c := by
  unfold Dat.before; rw [if_pos (fetch0_1 t)]
  exact (read1 (F := F) t _).trans (V1_of m c main_arg1 (by decide))
theorem before2 (c : Dev nD) (t : Fin cfg0.N) (d) : (dats m 0 c).before 2 t d = opK m c := by
  unfold Dat.before; rw [if_pos (fetch0_2 t)]
  exact (read2 (F := F) t (opK m c))
theorem before3 (c : Dev nD) (t : Fin cfg0.N) (d) : (dats m 0 c).before 3 t d = opV m c := by
  unfold Dat.before; rw [if_pos (fetch0_3 t)]
  exact (read3 (F := F) t (opV m c))
theorem before4 (c : Dev nD) (t : Fin cfg0.N) (d) : (dats m 0 c).before 4 t d = argWo m c := by
  unfold Dat.before; rw [if_pos (fetch0_4 t)]
  exact (read4 (F := F) t _).trans (V1_of m c main_arg4 (by decide))

/-! ## The body at the region's one point -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns
  rw [Memref.view_whole, View.set_whole]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem stg_elim (c : Dev nD) (b : Ref sig .tc) (X : b.ty.Contents (Elt F)) : (stg c b X : sProp 𝕄)
    ⊢ ((Memref.whole b).view.loc (c : Thread nD τ) ↦[(Memref.whole b).view.set]{fullShare} X) := by
  iintro ⟨%f, %h, H⟩
  subst h
  iapply (Entails.of_eq (wholeAt b c f)) $$ H
theorem stg_intro (c : Dev nD) (b : Ref sig .tc) (X : b.ty.Contents (Elt F)) : (((Memref.whole b).view.loc (c : Thread nD τ) ↦[(Memref.whole b).view.set]{fullShare} X : sProp 𝕄)) ⊢
    stg c b X := by
  iintro H
  iexists X
  isplitr; · (ipureintro; rfl)
  iapply (Entails.of_eq (wholeAt b c X).symm) $$ H

def bodyPre (c : Dev nD) : sProp 𝕄 :=
  iprop(Φ₀ m c ∗ (dats m 0 c).owesAt () t0_0.castSucc
    ∗ (∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))
def bodyPost (c : Dev nD) : sProp 𝕄 :=
  iprop(Φ₁ c ∗ (dats m 0 c).owesAt () t0_0.succ ∗ stg c cc0_stg0_0 (opX m c) ∗ stg c cc0_stg1_0 (argWq m c)
    ∗ stg c cc0_stg2_0 (opK m c) ∗ stg c cc0_stg3_0 (opV m c) ∗ stg c cc0_stg4_0 (argWo m c) ∗ stg c cc0_stg5_0 (result m c))

set_option maxRecDepth 8000 in
/-- The body, from what the pipeline calls it with to what the pipeline expects back. -/
theorem sound_body (c : Dev nD) : bodyPre m c ⊢ wp frame (wpE (defs₀ (F := F)) 𝒱₀ (c : Thread nD τ) none) Set.univ (body (F := F)) (fun _ => bodyPost m c) := by
  unfold bodyPre Φ₀ Xk room
  iintro ⟨⟨⟨%K, #HI, #Hlev, HG⟩, ⟨Hscr, Hs0, Hs1, Hs2⟩, Hp⟩, HO, ⟨%d0, H0⟩, ⟨%d1, H1⟩, ⟨%d2, H2⟩, ⟨%d3, H3⟩, ⟨%d4, H4⟩, ⟨%d5, H5⟩⟩
  ihave HO := (owesAt_elim m c t0_0.castSucc (O₀ c) rfl) $$ HO
  icases HO with ⟨%W, HO⟩
  ihave H0 := ((Entails.of_eq (congrArg (stg c cc0_stg0_0) (before0 m c t0_0 d0))).trans (stg_elim c cc0_stg0_0 _)) $$ H0
  ihave H1 := ((Entails.of_eq (congrArg (stg c cc0_stg1_0) (before1 m c t0_0 d1))).trans (stg_elim c cc0_stg1_0 _)) $$ H1
  ihave H2 := ((Entails.of_eq (congrArg (stg c cc0_stg2_0) (before2 m c t0_0 d2))).trans (stg_elim c cc0_stg2_0 _)) $$ H2
  ihave H3 := ((Entails.of_eq (congrArg (stg c cc0_stg3_0) (before3 m c t0_0 d3))).trans (stg_elim c cc0_stg3_0 _)) $$ H3
  ihave H4 := ((Entails.of_eq (congrArg (stg c cc0_stg4_0) (before4 m c t0_0 d4))).trans (stg_elim c cc0_stg4_0 _)) $$ H4
  ihave H5 := (stg_elim c cc0_stg5_0 _) $$ H5
  iapply (wp_wand_r frame (wpE (defs₀ (F := F)) 𝒱₀ (c : Thread nD τ) none) Set.univ (Q := fun _ => (iprop((semVal (bar c) 0 ∗ zeros c) ∗ (∃ W', owes (c : Thread nD τ) 0 W')
      ∗ ins (argWq m) (argWo m) c (opX m c) (opK m c) (opV m c) ∗ at' x5M fullShare c (accV (outB (argWq m) (argWo m) (opX m c) (opK m c) (opV m c) c)) ∗ scr c ∗ slots 0 c ∗ slots 1 c ∗ slots 2 c) : sProp 𝕄)))
  isplitr [Hp]
  · iapply (run (argWq m) (argWo m) K c W (opX m c) (opK m c) (opV m c) _)
    isplitr; · iexact HI
    isplitr; · iexact Hlev
    isplitl [HG]; · iexact HG
    isplitl [HO]; · iexact HO
    isplitl [H0 H1 H2 H3 H4]
    · unfold ins
      isplitl [H0]; · iexact H0
      isplitl [H1]; · iexact H1
      isplitl [H2]; · iexact H2
      isplitl [H3]; · iexact H3
      iexact H4
    isplitl [H5]; · iexact H5
    isplitl [Hscr]; · iexact Hscr
    isplitl [Hs0]; · iexact Hs0
    isplitl [Hs1]; · iexact Hs1
    iexact Hs2
  iintro %_ ⟨⟨Hb, Hz⟩, ⟨%W', HO⟩, Hins, H5, Hroom⟩
  unfold ins
  icases Hins with ⟨H0, H1, H2, H3, H4⟩
  unfold bodyPost Φ₁ Yk room
  isplitl [Hb Hz Hroom Hp]
  · isplitl [Hb Hz]
    · isplitl [Hb] <;> iassumption
    isplitl [Hroom] <;> iassumption
  isplitl [HO]
  · iapply (owesAt_intro m c t0_0.succ 0 rfl W') $$ HO
  isplitl [H0]; · iapply (stg_intro c cc0_stg0_0 _) $$ H0
  isplitl [H1]; · iapply (stg_intro c cc0_stg1_0 _) $$ H1
  isplitl [H2]; · iapply (stg_intro c cc0_stg2_0 _) $$ H2
  isplitl [H3]; · iapply (stg_intro c cc0_stg3_0 _) $$ H3
  isplitl [H4]; · iapply (stg_intro c cc0_stg4_0 _) $$ H4
  unfold result
  iapply (stg_intro c cc0_stg5_0 _) $$ H5

set_option maxRecDepth 8000 in
/-- The pipeline's obligation on the body. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  exact sound_body m c

end Cert.KernelIdeal.Talk

end
-- ==== Proof.Segment.lean ====
/- The kernel's region as one segment of @main: its cells opened on entry, its counters returned on exit. -/
module

public import proofs.«01_k».proof.Proof.Region

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The counters of the transfers -/

/-- The transfer counters by slot, kind and end (0 departs, 1 lands). -/
def osem (k : Fin 3 × Fin 3 × Fin 2) : SemLoc sig := .dma (if k.2.2 = 0 then ss k.2.1 k.1 else rs k.2.1 k.1)
theorem ownFacts : Pipeline.OwnSemFacts spec0 osem := by decide
theorem ownSems_eq (c : Dev nD) : (Pipeline.ownSems0 osem c : sProp 𝕄) = zeros c := by
  unfold Pipeline.ownSems0 zeros
  rw [bigSep_univ_prod]
  refine bigSep_congr fun j _ => ?_
  rw [bigSep_univ_prod]
  exact bigSep_congr fun a _ => bigSep_fin_two (fun b : Fin 2 => (semVal ((c : Thread nD τ), osem (j, a, b)) 0 : sProp 𝕄))

/-! ## Opening the cells -/

/-- One transfer pair opened: its counters go into its cells. -/
theorem open_pair (wq : Dev nD → Vec F S512x256 .f32) (wo : Dev nD → Vec F S256x512 .f32) (K : GSem nD τ sig → ℕ) (a j : Fin 3) (c : Dev nD) :
    iprop(allI wq wo K ∗ dorm a j c ∗ (semVal (snd a j c) 0 ∗ semVal (rcv a j c) 0)) ⊢ (|={Set.univ}=> pair a j c : sProp 𝕄) := by
  unfold dorm pair
  iintro ⟨#HI, ⟨⟨Hos, Hor⟩, ⟨Hts, Htr⟩, Hc⟩, Hs, Hr⟩
  imod (Rounds.cell_open ER (rd wq wo) (g := snd a j c) (Set.mem_univ (K (snd a j c)))) $$ [Hos Hs] with ⟨Has, #HRs⟩
  · isplitr; · iapply (allI_snd wq wo K a j c) $$ HI
    isplitl [Hos] <;> iassumption
  imod (Rounds.cell_open ER (rd wq wo) (g := rcv a j c) (Set.mem_univ (K (rcv a j c)))) $$ [Hor Hr] with ⟨Har, #HRr⟩
  · isplitr; · iapply (allI_rcv wq wo K a j c) $$ HI
    isplitl [Hor] <;> iassumption
  imodintro
  isplitl [Has]; · iexact Has
  isplitl [Har]; · iexact Har
  isplitr; · iexact HRs
  isplitr; · iexact HRr
  isplitl [Hts]; · iexact Hts
  isplitl [Htr]; · iexact Htr
  iexact Hc
theorem open_row (wq : Dev nD → Vec F S512x256 .f32) (wo : Dev nD → Vec F S256x512 .f32) (K : GSem nD τ sig → ℕ) (j : Fin 3) (c : Dev nD) :
    iprop(allI wq wo K ∗ ((bigSep Finset.univ fun a : Fin 3 => dorm a j c) ∗ bigSep Finset.univ fun a : Fin 3 => iprop(semVal (snd a j c) 0 ∗ semVal (rcv a j c) 0)))
      ⊢ (|={Set.univ}=> bigSep Finset.univ fun a : Fin 3 => pair a j c : sProp 𝕄) := by
  rw [← bigSep_sep']
  exact (bigSep_with_persistent (R := allI wq wo K) (fun a _ => open_pair wq wo K a j c)).trans (bigSep_fupd _ _)
theorem open_all (wq : Dev nD → Vec F S512x256 .f32) (wo : Dev nD → Vec F S256x512 .f32) (K : GSem nD τ sig → ℕ) (c : Dev nD) :
    iprop(allI wq wo K ∗ ((bigSep Finset.univ fun j : Fin 3 => bigSep Finset.univ fun a : Fin 3 => dorm a j c) ∗ zeros c))
      ⊢ (|={Set.univ}=> bigSep Finset.univ fun j : Fin 3 => bigSep Finset.univ fun a : Fin 3 => pair a j c : sProp 𝕄) := by
  unfold zeros
  rw [← bigSep_sep']
  exact (bigSep_with_persistent (R := allI wq wo K) (fun j _ => open_row wq wo K j c)).trans (bigSep_fupd _ _)

theorem hopen (c : Dev nD) : iprop(Tk m c ∗ Pipeline.ownSems0 osem c ∗ levAts L lv) ⊢ (|={Set.univ}=> Xk m c : sProp 𝕄) := by
  rw [ownSems_eq]
  unfold Tk Xk ghost
  iintro ⟨⟨%K, #HI, Hsig, Hat, Hcr, Hd⟩, Hz, #Hlev⟩
  imod (open_all (argWq m) (argWo m) K c) $$ [Hd Hz] with Hp
  · isplitr; · iexact HI
    isplitl [Hd] <;> iassumption
  imodintro
  iexists K
  isplitr; · iexact HI
  isplitr; · iexact Hlev
  isplitl [Hsig]; · iexact Hsig
  isplitl [Hat]; · iexact Hat
  isplitl [Hcr]; · iexact Hcr
  iexact Hp

/-! ## Entering and leaving -/

/-- The buffers after the region. -/
def V2 (c : Dev nD) : Valuation τ sig (Elt F) := Function.update (V1 m c) (Proc.devRef .tc main_v21) (result m c)
theorem V2_result (c : Dev nD) : V2 m c (Proc.devRef .tc main_v21) = result m c := Function.update_self _ _ _
theorem V2_off (c : Dev nD) (r : Ref sig .tc) (h : r ≠ main_v21) : V2 m c (Proc.devRef .tc r) = V1 m c (Proc.devRef .tc r) :=
  Function.update_of_ne (StableHlo.devRef_ne_of_ne h) _ _

theorem held_none (c : Dev nD) (W : Valuation τ sig (Elt F)) : (StableHlo.held (c : Thread nD τ) ∅ W : sProp 𝕄) = BI.emp := by
  unfold StableHlo.held; exact BI.bigSep_empty

theorem hin (c : Dev nD) : iprop(Pipeline.scopedRest spec0 c ∗ (∃ r, prngReg c r) ∗ StableHlo.held (c : Thread nD τ) ∅ (V1 m c) ∗ Xk m c) ⊢ (Φ₀ m c : sProp 𝕄) := by
  rw [held_none]
  unfold Φ₀ room
  iintro ⟨Hs, Hp, -, HX⟩
  ihave Hs := (rest_split c) $$ Hs
  isplitl [HX]; · iexact HX
  isplitl [Hs] <;> iassumption
theorem hout (c : Dev nD) : (Φ₁ c : sProp 𝕄) ⊢ iprop(Pipeline.scopedRest spec0 c ∗ (∃ r, prngReg c r) ∗ StableHlo.held (c : Thread nD τ) ∅ (V2 m c)
    ∗ Pipeline.ownSems0 osem c ∗ Yk c) := by
  rw [held_none, ownSems_eq]
  unfold Φ₁ room
  iintro ⟨⟨Hb, Hz⟩, Hs, Hp⟩
  ihave Hs := (rest_join c) $$ Hs
  isplitl [Hs]; · iexact Hs
  isplitl [Hp]; · iexact Hp
  isplitr; · iempintro
  isplitl [Hz] <;> iassumption

/-! ## The arrays at the end -/

theorem cover5 (i : S2x256x512.Idx) : ∃ t : Fin cfg0.N, (cfg0.win 5).flush t = true ∧ i ∈ ((cfg0.win 5).blk t).view.set := by
  have e : ((cfg0.win 5).blk t0_0).view.emb i = i := by
    blk_ext [ix5 t0_0]
  exact ⟨t0_0, flush0_5 _, e ▸ Finset.mem_map_of_mem _ (Finset.mem_univ _)⟩
theorem arr_end (c : Dev nD) : ∀ w : Fin 6, (dats m 0 c).arrAt w cfg0.N = V2 m c (Proc.devRef .tc (Pipeline.arrRef spec0 w)) := by
  intro w
  fin_cases w
  · exact ((dats m 0 c).arrAt_in (0 : Fin 6) rfl _).trans (V2_off m c main_arg0 (by decide)).symm
  · exact ((dats m 0 c).arrAt_in (1 : Fin 6) rfl _).trans (V2_off m c main_arg1 (by decide)).symm
  · exact ((dats m 0 c).arrAt_in (2 : Fin 6) rfl _).trans (V2_off m c main_v17 (by decide)).symm
  · exact ((dats m 0 c).arrAt_in (3 : Fin 6) rfl _).trans (V2_off m c main_v20 (by decide)).symm
  · exact ((dats m 0 c).arrAt_in (4 : Fin 6) rfl _).trans (V2_off m c main_arg4 (by decide)).symm
  · exact ((dats m 0 c).arrAt_eq_of_cover 5 (result m c) (fun t _ => (read5 (F := F) t (result m c)).symm) cover5).trans (V2_result m c).symm

/-! ## The segment -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What the device owes is above the staging cells. -/
theorem cutD (c : Dev nD) (t : Fin (cfg0.N + 1)) (g : GSem nD τ sig) (i : Unit) (h : 0 < (dats m 0 c).owed t g i) : i ∈ L g ∧ (0 : ℕ) < lv g i := by
  have h' : 0 < O₀ c g i := by
    match t, h with
    | ⟨0, _⟩, h => exact h
    | ⟨_ + 1, _⟩, h => exact absurd h (Nat.lt_irrefl 0)
  rcases O₀_pos h' with ⟨a, j, rfl⟩ | ⟨k, rfl⟩
  · exact ⟨by rw [L_tc]; exact Finset.mem_singleton_self _, by rw [lv_rcv]; decide⟩
  · exact ⟨by rw [L_tc]; exact Finset.mem_singleton_self _, by rw [lv_bar]; decide⟩
theorem stage_low : ∀ (w : Fin 6) (s : Fin (spec0 w).nbuf), ¬ 6 ≤ ((spec0 w).sem s).val := by decide

/-- The buffers the region leaves alone. -/
abbrev Sr : Finset (DevRef τ sig) := Pipeline.ucRefs τ sig \ Pipeline.arrRefs (τ := τ) spec0

set_option backward.isDefEq.respectTransparency.types false in
def reg : Pipeline.RegionSeg (pcfgs (F := F)) adm (dats m) () defs₀ 𝒱₀ L lv 0 :=
  Pipeline.RegionSeg.ofTalk (pcfgs (F := F)) adm (dats m) () defs₀ 𝒱₀ L lv 0 osem ownFacts
    ∅ Sr (Finset.empty_subset _) kitP rfl (fun c => (body_obligation m c).loose)
    (fun _ => 0) O₀ (fun c => (zero_add (O₀ c)).symm) (fun _ => rfl) (fun _ => rfl) (fun c w => by unfold Dat.share; exact ite_self _)
    (V1 m) (V2 m) (fun c b hb => Function.update_of_ne (fun h => by
      subst h
      exact (Finset.mem_sdiff.mp (Finset.mem_sdiff.mp hb).1).2 (Finset.mem_map_of_mem _ (Finset.mem_image_of_mem _ (Finset.mem_univ (5 : Fin 6))))) _ _)
    (Tk m) Yk (Xk m) Yk (hopen m) (hin m) (hout m)
    (fun c => by iintro H; imodintro; iexact H)
    (fun _ => 0)
    ⟨fun c w s => by rw [L_tc]; exact Finset.mem_singleton_self _, fun c w s => le_of_eq (if_neg fun h => stage_low w s h.1), fun c t g i h => cutD m c t g i h⟩
    (fun _ => iprop(emp))
    (fun _ _ => rfl) (arr_end m)

theorem arr_sub : Pipeline.arrRefs (τ := τ) spec0 ⊆ Pipeline.ucRefs τ sig := Pipeline.arrRefs_sub_ucRefs spec0 (by decide)

/-- What rides beside the buffers into the region. -/
def E0 (c : Dev nD) : sProp 𝕄 := iprop((∃ r, prngReg c r) ∗ Tk m c ∗ ∃ W, owes (c : Thread nD τ) (O₀ c) W)
theorem reg_pre (c : Dev nD) : iprop(StableHlo.held (c : Thread nD τ) (Pipeline.ucRefs τ sig) (V1 m c) ∗ E0 m c) ⊢ (reg m).pre c := by
  show _ ⊢ iprop(StableHlo.held (c : Thread nD τ) (Pipeline.arrRefs (τ := τ) spec0) (V1 m c) ∗ (∃ r, prngReg c r)
    ∗ (StableHlo.held (c : Thread nD τ) Sr (V1 m c) ∗ emp) ∗ Tk m c ∗ ∃ Wd, owes (c : Thread nD τ) (0 + O₀ c) Wd)
  rw [StableHlo.held_sub_split (c : Thread nD τ) arr_sub (V1 m c), zero_add]
  unfold E0
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO
theorem reg_post (c : Dev nD) : (reg m).post c
    ⊢ iprop((StableHlo.held (c : Thread nD τ) (Pipeline.ucRefs τ sig) (V2 m c) ∗ semVal (bar c) 0) ∗ ∃ W, owes (c : Thread nD τ) (0 : CellTallies nD τ sig Unit) W) := by
  show iprop(StableHlo.held (c : Thread nD τ) (Pipeline.arrRefs (τ := τ) spec0) (V2 m c) ∗ (∃ r, prngReg c r)
    ∗ (StableHlo.held (c : Thread nD τ) Sr (V2 m c) ∗ emp) ∗ Yk c ∗ ∃ Wd, owes (c : Thread nD τ) (0 : CellTallies nD τ sig Unit) Wd) ⊢ _
  rw [StableHlo.held_sub_split (c : Thread nD τ) arr_sub (V2 m c)]
  unfold Yk
  iintro ⟨Ha, -, ⟨Hr, -⟩, Hb, HO⟩
  isplitl [Ha Hr Hb]
  · isplitl [Ha Hr]
    · isplitl [Ha] <;> iassumption
    iexact Hb
  iexact HO

end Cert.KernelIdeal.Talk

end
-- ==== Proof.Launch.lean ====
/- The launch: the cells of the exchange made, their rights dealt to the devices that pay them, and the run of @main. -/
module

public import proofs.«01_k».proof.Proof.Segment

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat BodyObligation Seg HostSeg RegionSeg)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- One end of one transfer. -/
abbrev EndIx : Type := Fin 3 × Fin 3 × Fin 2

theorem osem_inj : Function.Injective osem := by decide
theorem osem_ne_bar : ∀ q : EndIx, osem q ≠ .reg barrier0 := by decide

def barAt : Dev nD ↪ GSem nD τ sig := ⟨fun c => bar c, fun _ _ h => congrArg (fun g : GSem nD τ sig => g.1.1) h⟩
def endAt : Dev nD × EndIx ↪ GSem nD τ sig :=
  ⟨fun p => ((p.1 : Thread nD τ), osem p.2), fun _ _ h =>
    Prod.ext (congrArg (fun g : GSem nD τ sig => g.1.1) h) (osem_inj (congrArg Prod.snd h))⟩

/-- The barriers, whose counters are there at launch, -/
abbrev bars : Finset (GSem nD τ sig) := Finset.univ.map barAt
/-- and the ends of the transfers, whose counters come with the kernel's region. -/
abbrev ends : Finset (GSem nD τ sig) := Finset.univ.map endAt

/-- A duty of one device's cells: a signal of its barrier, or one end of a transfer. -/
abbrev DutyIx : Type := Fin 3 ⊕ EndIx
def dutySem : DutyIx → SemLoc sig := fun | .inl _ => .reg barrier0 | .inr q => osem q
def dutyNo : DutyIx → Fin 3 := fun | .inl k => k | .inr _ => 0
theorem duty_inj : Function.Injective fun t : DutyIx => (dutySem t, dutyNo t) := by decide
def dutyAt : Dev nD × DutyIx ↪ GSem nD τ sig × ℕ × Fin 3 :=
  ⟨fun p => (((p.1 : Thread nD τ), dutySem p.2), 0, dutyNo p.2), fun _ _ h =>
    Prod.ext (congrArg (fun t : GSem nD τ sig × ℕ × Fin 3 => t.1.1.1) h)
      (duty_inj (Prod.ext (congrArg (fun t : GSem nD τ sig × ℕ × Fin 3 => t.1.2) h) (congrArg (fun t : GSem nD τ sig × ℕ × Fin 3 => t.2.2) h)))⟩
/-- Every duty's token. -/
def duties : Finset (GSem nD τ sig × ℕ × Fin 3) := Finset.univ.map dutyAt

theorem bars_ends : Disjoint (bars : Finset (GSem nD τ sig)) ends := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

theorem bar_in (c : Dev nD) : bar c ∈ (bars ∪ ends : Finset (GSem nD τ sig)) :=
  Finset.mem_union_left _ (Finset.mem_map_of_mem barAt (Finset.mem_univ c))
theorem snd_in (a j : Fin 3) (c : Dev nD) : snd a j c ∈ (bars ∪ ends : Finset (GSem nD τ sig)) :=
  Finset.mem_union_right _ (Finset.mem_map_of_mem endAt (Finset.mem_univ (c, (j, a, (0 : Fin 2)))))
theorem rcv_in (a j : Fin 3) (c : Dev nD) : rcv a j c ∈ (bars ∪ ends : Finset (GSem nD τ sig)) :=
  Finset.mem_union_right _ (Finset.mem_map_of_mem endAt (Finset.mem_univ (c, (j, a, (1 : Fin 2)))))

/-! ## The launch element -/

/-- The launch element of the two libraries. -/
def u₀ : UU :=
  (initOf (Pipeline.cells (Pipeline.pin (pcfgs (F := F)) adm) cellOf_inj) (Pipeline.launchToks (Pipeline.pin (pcfgs (F := F)) adm) cellOf_inj),
    launchOf bars ends duties)

/-- A resource all of which one device holds. -/
def parked (d : Dev nD) (X : sProp 𝕄) (c : Dev nD) : sProp 𝕄 := if c = d then X else iprop(emp)
theorem bigSep_parked (d : Dev nD) (X : sProp 𝕄) : bigSep Finset.univ (parked d X) = X := by
  rw [bigSep_univ_at _ d, bigSep_congr (s := Finset.univ.erase d) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- The protocol's part of it, whole on device 0 until the cells are made. -/
def G : Dev nD → sProp 𝕄 := parked 0 (BI.own (ER (launchOf bars ends duties)))

/-! ## Dealing the records -/

theorem inv_at (K : GSem nD τ sig → ℕ) {g : GSem nD τ sig} (hg : g ∈ (bars ∪ ends : Finset (GSem nD τ sig))) :
    (bigSep (bars ∪ ends) fun g => (cI (argWq m) (argWo m) K g : sProp 𝕄)) ⊢ cI (argWq m) (argWo m) K g :=
  bigSep_elim hg
theorem reached_at (c : Dev nD) : (bigSep bars fun g => (reached ER g 0 : sProp 𝕄)) ⊢ reached ER (bar c) 0 :=
  bigSep_elim (Finset.mem_map_of_mem barAt (Finset.mem_univ c))

theorem inv_pair (K : GSem nD τ sig → ℕ) (c : Dev nD) (p : Fin 3 × Fin 3) :
    (bigSep (bars ∪ ends) fun g => (cI (argWq m) (argWo m) K g : sProp 𝕄))
      ⊢ iprop(cI (argWq m) (argWo m) K (snd p.1 p.2 c) ∗ cI (argWq m) (argWo m) K (rcv p.1 p.2 c)) := by
  iintro #H
  isplitr
  · iapply (inv_at m K (snd_in p.1 p.2 c)) $$ H
  · iapply (inv_at m K (rcv_in p.1 p.2 c)) $$ H
theorem inv_dev (K : GSem nD τ sig → ℕ) (c : Dev nD) :
    (bigSep (bars ∪ ends) fun g => (cI (argWq m) (argWo m) K g : sProp 𝕄))
      ⊢ iprop(cI (argWq m) (argWo m) K (bar c) ∗ bigSep Finset.univ fun p : Fin 3 × Fin 3 =>
          iprop(cI (argWq m) (argWo m) K (snd p.1 p.2 c) ∗ cI (argWq m) (argWo m) K (rcv p.1 p.2 c))) := by
  iintro #H
  isplitr
  · iapply (inv_at m K (bar_in c)) $$ H
  · iapply ((bigSep_of_persistent Finset.univ _).trans (bigSep_mono fun p _ => inv_pair m K c p)) $$ H
theorem inv_all (K : GSem nD τ sig → ℕ) :
    (bigSep (bars ∪ ends) fun g => (cI (argWq m) (argWo m) K g : sProp 𝕄)) ⊢ allI (argWq m) (argWo m) K := by
  unfold allI
  exact (bigSep_of_persistent Finset.univ _).trans (bigSep_mono fun c _ => inv_dev m K c)

/-- What every device may consult: all invariants, and that every barrier is at round 0. -/
def records (K : GSem nD τ sig → ℕ) : sProp 𝕄 := iprop(allI (argWq m) (argWo m) K ∗ bigSep bars fun g => reached ER g 0)
instance records_persistent (K : GSem nD τ sig → ℕ) : BI.Persistent (records m K) := by unfold records; infer_instance

/-! ## Dealing the tokens -/

/-- The tokens of one device's own cells, -/
def ownToks (c : Dev nD) : sProp 𝕄 :=
  iprop((bigSep Finset.univ fun k : Fin 3 => dutyTok ER (bar c) 0 k)
    ∗ bigSep Finset.univ fun j : Fin 3 => bigSep Finset.univ fun a : Fin 3 => iprop(dutyTok ER (snd a j c) 0 0 ∗ dutyTok ER (rcv a j c) 0 0))
/-- and the tokens of the duties it pays. -/
def payToks (c : Dev nD) : sProp 𝕄 :=
  iprop((bigSep Finset.univ fun k : Fin 3 => dutyTok ER (bar (pr k c)) 0 k)
    ∗ bigSep Finset.univ fun j : Fin 3 => bigSep Finset.univ fun a : Fin 3 => iprop(dutyTok ER (snd a j c) 0 0 ∗ dutyTok ER (rcv a j (pr j c)) 0 0))

/-- A family over the ends of one device's transfers, by slot, kind and end. -/
theorem bigSep_ends (Φ : EndIx → sProp 𝕄) : (bigSep Finset.univ Φ : sProp 𝕄)
    = bigSep Finset.univ fun j : Fin 3 => bigSep Finset.univ fun a : Fin 3 => iprop(Φ (j, a, 0) ∗ Φ (j, a, 1)) := by
  rw [bigSep_univ_prod]
  refine bigSep_congr fun j _ => ?_
  rw [bigSep_univ_prod]
  exact bigSep_congr fun a _ => bigSep_fin_two (fun b : Fin 2 => Φ (j, a, b))

theorem duties_eq : bigSep duties (fun x => (dutyTok ER x.1 x.2.1 x.2.2 : sProp 𝕄)) = bigSep Finset.univ fun c : Dev nD => ownToks c := by
  unfold duties; rw [BI.bigSep_map, bigSep_univ_prod]
  refine bigSep_congr fun c _ => ?_
  unfold ownToks
  rw [BI.bigSep_univ_sum]
  refine congrArg₂ (fun A B : sProp 𝕄 => iprop(A ∗ B)) rfl ?_
  exact bigSep_ends _

/-- Two families of indices may be run through in either order. -/
theorem bigSep_flip {A B : Type} [Fintype A] [Fintype B] [DecidableEq A] [DecidableEq B] (Φ : A → B → sProp 𝕄) :
    (bigSep Finset.univ fun a : A => bigSep Finset.univ fun b : B => Φ a b) = bigSep Finset.univ fun b : B => bigSep Finset.univ fun a : A => Φ a b :=
  (bigSep_univ_prod (fun p : A × B => Φ p.1 p.2)).symm.trans
    ((bigSep_univ_equiv (Equiv.prodComm B A) (fun p : A × B => Φ p.1 p.2)).trans (bigSep_univ_prod (fun p : B × A => Φ p.2 p.1)))

/-- A family over devices and distances, each member handed on by its distance. -/
theorem bigSep_around (Φ : Fin 3 → Dev nD → sProp 𝕄) :
    (bigSep Finset.univ fun c : Dev nD => bigSep Finset.univ fun k : Fin 3 => Φ k c)
      = bigSep Finset.univ fun c : Dev nD => bigSep Finset.univ fun k : Fin 3 => Φ k (pr k c) := by
  rw [bigSep_flip (fun c k => Φ k c), bigSep_flip (fun c k => Φ k (pr k c))]
  exact bigSep_congr fun k _ => bigSep_univ_equiv (ahead k) (Φ k)

theorem toks_around : (bigSep Finset.univ fun c : Dev nD => (ownToks c : sProp 𝕄)) = bigSep Finset.univ fun c : Dev nD => payToks c := by
  unfold ownToks payToks
  have e : ∀ (Φ Ψ : Fin 3 → Fin 3 → sProp 𝕄),
      (bigSep Finset.univ fun j : Fin 3 => bigSep Finset.univ fun a : Fin 3 => iprop(Φ j a ∗ Ψ j a))
        = iprop((bigSep Finset.univ fun j : Fin 3 => bigSep Finset.univ fun a : Fin 3 => Φ j a) ∗ bigSep Finset.univ fun j : Fin 3 => bigSep Finset.univ fun a : Fin 3 => Ψ j a) :=
    fun Φ Ψ => by rw [← bigSep_sep']; exact bigSep_congr fun j _ => bigSep_sep' _ _ _
  simp only [e]
  rw [bigSep_sep', bigSep_sep', bigSep_sep', bigSep_sep', bigSep_around (fun k c => (dutyTok ER (bar c) 0 k : sProp 𝕄)),
    bigSep_around (fun j c => bigSep Finset.univ fun a : Fin 3 => (dutyTok ER (rcv a j c) 0 0 : sProp 𝕄))]

/-! ## The launch credit -/

theorem bar_iff (c d : Dev nD) : bar c = bar d ↔ c = d := ⟨fun h => barAt.injective h, fun h => by rw [h]⟩
theorem rcv_iff (a j a' j' : Fin 3) (c d : Dev nD) : rcv a j c = rcv a' j' d ↔ a = a' ∧ j = j' ∧ c = d :=
  ⟨fun h => by
    have h := endAt.injective (a₁ := (c, (j, a, 1))) (a₂ := (d, (j', a', 1))) h
    simpa [and_comm, and_left_comm, and_assoc] using h, fun ⟨h₁, h₂, h₃⟩ => by rw [h₁, h₂, h₃]⟩
theorem rcv_ne_bar (a j : Fin 3) (c d : Dev nD) : rcv a j c ≠ bar d := fun h => osem_ne_bar (j, a, 1) (congrArg Prod.snd h)

theorem owR_bar (d c : Dev nD) : owR d (bar c) () = 0 := by
  by_contra h
  obtain ⟨a, j, e⟩ := owR_pos (Nat.pos_of_ne_zero h)
  exact rcv_ne_bar a j _ _ e.symm
theorem owB_rcv (d : Dev nD) (a j : Fin 3) (c : Dev nD) : owB d (rcv a j c) () = 0 := by
  by_contra h
  obtain ⟨k, e⟩ := owB_pos (Nat.pos_of_ne_zero h)
  exact rcv_ne_bar a j _ _ e
theorem owB_bar (d c : Dev nD) : owB d (bar c) () = ∑ k : Fin 3, if c = pr k d then 1 else 0 := by
  unfold owB
  rw [Finset.sum_apply, Finsupp.finset_sum_apply]
  exact Finset.sum_congr rfl fun k _ => by simp only [tallyAt_apply, bar_iff, and_true]
theorem owR_rcv (d : Dev nD) (a j : Fin 3) (c : Dev nD) : owR d (rcv a j c) () = if c = pr j d then N a else 0 := by
  unfold owR
  rw [Finset.sum_apply, Finsupp.finset_sum_apply, Fin.sum_univ_three]
  simp only [Pi.add_apply, Finsupp.add_apply, tallyAt_apply, rcv_iff, and_true]
  fin_cases a <;> fin_cases j <;> simp
theorem owed_bar (c : Dev nD) : (∑ d : Dev nD, O₀ d (bar c) ()) = 3 := by
  rw [Finset.sum_congr rfl fun d _ => show O₀ d (bar c) () = ∑ k : Fin 3, if c = pr k d then 1 else 0 from by
    unfold O₀; rw [Pi.add_apply, Finsupp.add_apply, owR_bar, owB_bar, Nat.zero_add]]
  revert c; decide
theorem owed_rcv (a j : Fin 3) (c : Dev nD) : (∑ d : Dev nD, O₀ d (rcv a j c) ()) = N a := by
  rw [Finset.sum_congr rfl fun d _ => show O₀ d (rcv a j c) () = if d = pr (rv j) c then N a else 0 from by
    unfold O₀; rw [Pi.add_apply, Finsupp.add_apply, owR_rcv, owB_rcv, Nat.add_zero]
    exact if_congr ⟨fun h => by rw [h, pr_rv], fun h => by rw [h, pr_rv']⟩ rfl rfl]
  rw [Finset.sum_ite_eq' Finset.univ (pr (rv j) c) fun _ => N a, if_pos (Finset.mem_univ _)]

theorem launch_bar (c : Dev nD) :
    tallyOn (bar c) (launchCredit (Pipeline.owing O₀) 0 (bar c)) = (tallyAt (bar c) () 3 : CellTallies nD τ sig Unit) := by
  unfold tallyAt; refine congrArg _ (Finsupp.ext fun u => ?_); cases u
  rw [Pipeline.launchCredit_owing, Finsupp.single_eq_same, owed_bar]
theorem launch_rcv (a j : Fin 3) (c : Dev nD) :
    tallyOn (rcv a j c) (launchCredit (Pipeline.owing O₀) 0 (rcv a j c)) = (tallyAt (rcv a j c) () (N a) : CellTallies nD τ sig Unit) := by
  unfold tallyAt; refine congrArg _ (Finsupp.ext fun u => ?_); cases u
  rw [Pipeline.launchCredit_owing, Finsupp.single_eq_same, owed_rcv]

/-- The landing counters of one device. -/
def rcvSem : Fin 3 × Fin 3 ↪ SemLoc sig := ⟨fun p => .dma (rs p.2 p.1), by decide⟩

theorem landings (c : Dev nD) :
    (bigSep (Finset.univ.map rcvSem) fun sm => (cred (tallyOn ((c : Thread nD τ), sm) (launchCredit (Pipeline.owing O₀) 0 ((c : Thread nD τ), sm))) : sProp 𝕄))
      = bigSep Finset.univ fun j : Fin 3 => bigSep Finset.univ fun a : Fin 3 => cred (tallyAt (rcv a j c) () (N a)) := by
  rw [BI.bigSep_map, bigSep_univ_prod]
  exact bigSep_congr fun j _ => bigSep_congr fun a _ => congrArg cred (launch_rcv a j c)

/-- A device's launch credit: three signals at its barrier and every landing. -/
theorem creds (c : Dev nD) : (Pipeline.launchCred O₀ c : sProp 𝕄)
    ⊢ iprop(cred (tallyAt (bar c) () 3) ∗ bigSep Finset.univ fun j : Fin 3 => bigSep Finset.univ fun a : Fin 3 => cred (tallyAt (rcv a j c) () (N a))) := by
  unfold Pipeline.launchCred
  rw [bigSep_univ_at _ (SemLoc.reg barrier0), launch_bar, ← landings]
  refine sep_mono_right (BI.bigSep_subset fun sm h => ?_)
  obtain ⟨p, -, rfl⟩ := Finset.mem_map.mp h
  exact Finset.mem_erase.mpr ⟨by revert p; decide, Finset.mem_univ _⟩

/-! ## What each device starts with -/

/-- What stays with one device: its barrier's position, its rights to open, the tokens it pays with. -/
def linear (c : Dev nD) : sProp 𝕄 :=
  iprop(atPos ER (bar c) 0 ∅ 0
    ∗ (bigSep Finset.univ fun j : Fin 3 => bigSep Finset.univ fun a : Fin 3 => iprop(openTok ER (snd a j c) ∗ openTok ER (rcv a j c)))
    ∗ payToks c)
/-- What of a device's launch holdings is not the protocol's ghost state. -/
def bundle (c : Dev nD) : sProp 𝕄 :=
  iprop(StableHlo.held (c : Thread nD τ) (Pipeline.ucRefs τ sig) (V0 m c)
    ∗ (cred (tallyAt (bar c) () 3) ∗ bigSep Finset.univ fun j : Fin 3 => bigSep Finset.univ fun a : Fin 3 => cred (tallyAt (rcv a j c) () (N a)))
    ∗ owes (c : Thread nD τ) (O₀ c) ∅ ∗ ∃ r, prngReg c r)

/-- What each device starts the run with, -/
def T₀ (c : Dev nD) : sProp 𝕄 := iprop(StableHlo.held (c : Thread nD τ) (Pipeline.ucRefs τ sig) (V0 m c) ∗ E0 m c)
/-- and what it ends the run with. -/
def Tₙ (c : Dev nD) : sProp 𝕄 := iprop(StableHlo.held (c : Thread nD τ) (Pipeline.ucRefs τ sig) (V2 m c) ∗ semVal (bar c) 0)

theorem dorm_intro (c : Dev nD) :
    iprop((bigSep Finset.univ fun j : Fin 3 => bigSep Finset.univ fun a : Fin 3 => iprop(openTok ER (snd a j c) ∗ openTok ER (rcv a j c)))
      ∗ (bigSep Finset.univ fun j : Fin 3 => bigSep Finset.univ fun a : Fin 3 => iprop(dutyTok ER (snd a j c) 0 0 ∗ dutyTok ER (rcv a j (pr j c)) 0 0))
      ∗ bigSep Finset.univ fun j : Fin 3 => bigSep Finset.univ fun a : Fin 3 => cred (tallyAt (rcv a j c) () (N a)))
      ⊢ (bigSep Finset.univ fun j : Fin 3 => bigSep Finset.univ fun a : Fin 3 => dorm a j c : sProp 𝕄) := by
  rw [← bigSep_sep', ← bigSep_sep']
  refine bigSep_mono fun j _ => ?_
  rw [← bigSep_sep', ← bigSep_sep']
  exact BI.Entails.refl _

theorem sigs_intro (c : Dev nD) :
    iprop((bigSep bars fun g => reached ER g 0) ∗ bigSep Finset.univ fun k : Fin 3 => dutyTok ER (bar (pr k c)) 0 k)
      ⊢ (bigSep Finset.univ fun k : Fin 3 => sig1 k c : sProp 𝕄) :=
  bigSep_with_persistent (R := bigSep bars fun g => (reached ER g 0 : sProp 𝕄)) fun k _ => by
    unfold sig1
    exact sep_mono_left (reached_at (pr k c))

theorem T₀_intro (K : GSem nD τ sig → ℕ) (c : Dev nD) : iprop(records m K ∗ (linear c ∗ bundle m c)) ⊢ T₀ m c := by
  unfold records linear bundle T₀ E0 Tk payToks
  iintro ⟨⟨#HI, #HR⟩, ⟨Hat, Hop, Hts, Htt⟩, Hh, ⟨Hcb, Hcr⟩, HO, Hp⟩
  isplitl [Hh]; · iexact Hh
  isplitl [Hp]; · iexact Hp
  isplitr [HO]
  · iexists K
    isplitr; · iexact HI
    isplitl [Hts]
    · iapply (sigs_intro c)
      isplitr; · iexact HR
      iexact Hts
    isplitl [Hat]; · iexact Hat
    isplitl [Hcb]; · iexact Hcb
    iapply (dorm_intro c)
    isplitl [Hop]; · iexact Hop
    isplitl [Htt]; · iexact Htt
    iexact Hcr
  · iexists ∅; iexact HO

theorem sems_eq (c : Dev nD) : (unscopedSems0 c : sProp 𝕄) = semVal (bar c) 0 := by
  unfold unscopedSems0
  rw [show (Finset.univ.filter fun sm : SemLoc sig => ¬ sm.isScoped .tc) = {SemLoc.reg barrier0} from by decide, bigSep_singleton]

theorem split0 (c : Dev nD) : iprop(unscopedBufs c (fun b => m ((c.tc : Thread nD τ).loc b)) ∗ unscopedSems0 c
      ∗ owes (c.tc : Thread nD τ) (O₀ c) ∅ ∗ Pipeline.launchCred O₀ c ∗ prngReg c (ρ c) ∗ G c)
    ⊢ (iprop(bundle m c ∗ (semVal (bar c) 0 ∗ G c)) : sProp 𝕄) := by
  rw [show (unscopedBufs c (fun b => m ((c.tc : Thread nD τ).loc b)) : sProp 𝕄) = StableHlo.held (c : Thread nD τ) (Pipeline.ucRefs τ sig) (V0 m c)
    from Pipeline.unscopedBufs_held (Ix := Unit) (Name := ℕ) (U := UU) (Lvl := ℕ) c (V0 m c), sems_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem bars_vals : bigSep Finset.univ (fun c : Dev nD => (semVal (bar c) 0 : sProp 𝕄)) ⊢ bigSep bars (fun g => (semVal g 0 : sProp 𝕄)) :=
  Entails.of_eq (BI.bigSep_map (s := Finset.univ) barAt (Φ := fun g : GSem nD τ sig => (semVal g 0 : sProp 𝕄))).symm
theorem bars_at : bigSep bars (fun g => (atPos ER g 0 ∅ 0 : sProp 𝕄)) ⊢ bigSep Finset.univ (fun c : Dev nD => (atPos ER (bar c) 0 ∅ 0 : sProp 𝕄)) :=
  Entails.of_eq (BI.bigSep_map (s := Finset.univ) barAt (Φ := fun g : GSem nD τ sig => (atPos ER g 0 ∅ 0 : sProp 𝕄)))
theorem ends_open : bigSep ends (fun g => (openTok ER g : sProp 𝕄))
    ⊢ bigSep Finset.univ fun c : Dev nD => bigSep Finset.univ fun j : Fin 3 => bigSep Finset.univ fun a : Fin 3 => iprop(openTok ER (snd a j c) ∗ openTok ER (rcv a j c)) :=
  Entails.of_eq (by
    rw [BI.bigSep_map, bigSep_univ_prod]
    exact bigSep_congr fun c _ => bigSep_ends _)

/-- The launch deals every device what it starts with. -/
theorem init : iprop((bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)) ∗ levAts L lv)
    ⊢ (|={Set.univ}=> bigSep Finset.univ (T₀ m) : sProp 𝕄) := by
  iintro ⟨H, -⟩
  ihave H' := (show (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c))
      ⊢ (bigSep Finset.univ fun c : Dev nD => iprop(bundle m c ∗ (semVal (bar c) 0 ∗ G c)) : sProp 𝕄) from bigSep_mono fun c _ => split0 m ρ c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf bars ends duties)) from
    Entails.of_eq (bigSep_parked (F := F) 0 (BI.own (ER (launchOf bars ends duties))))) $$ HG
  imod (Rounds.fund_launch ER (rd (argWq m) (argWo m)) bars_ends (fun g _ h => h) duties) $$ [Hv Hu] with ⟨%K, -, #Hinv, #Hr, Hat, Hopen, Htok⟩
  · isplitl [Hv]
    · iapply bars_vals $$ Hv
    · iexact Hu
  imodintro
  iapply (bigSep_with_persistent (R := records m K) (Φ := fun c => iprop(linear c ∗ bundle m c)) fun c _ => T₀_intro m K c)
  isplitr
  · unfold records
    isplitr; · iapply (inv_all m K) $$ Hinv
    iexact Hr
  iapply (Entails.of_eq (bigSep_sep' _ _ _).symm)
  isplitr [HB]
  · unfold linear
    iapply (Entails.of_eq (bigSep_sep' _ _ _).symm); isplitl [Hat]; · iapply bars_at $$ Hat
    iapply (Entails.of_eq (bigSep_sep' _ _ _).symm); isplitl [Hopen]; · iapply ends_open $$ Hopen
    iapply (Entails.of_eq (toks_around (F := F)))
    iapply (Entails.of_eq (duties_eq (F := F))) $$ Htok
  · iexact HB

/-! ## The run -/

theorem unscoped_eq : ∀ sm : SemLoc sig, sm.isScoped .tc = false → sm = .reg barrier0 := by decide

/-- @main in two stretches: the operations before the kernel, and the kernel. -/
abbrev stretches (c : Dev nD) : List (Seg (pcfgs (F := F)) adm (dats m) () defs₀ 𝒱₀ L lv) :=
  segs m 𝒱₀ L lv (fun _ => E0 m) () (dats m) (reg m) c

/-- A buffer named at top level is among those the run holds. -/
theorem in_held (r : Ref sig .tc) (h : (Proc.devRef .tc r : DevRef τ sig).isScoped = false) : (Proc.devRef .tc r : DevRef τ sig) ∈ Pipeline.ucRefs τ sig :=
  Finset.mem_filter.mpr ⟨StableHlo.devRef_mem_tcRefs r, by rw [h]; decide⟩

set_option backward.isDefEq.respectTransparency.types false in
/-- The run of @main on the four devices: it ends, every argument array is as it was, the result array holds `result`, and every
    semaphore counter is zero. -/
theorem run_main : θ_run defs (onTc (τ := τ) (main (F := F))) ⟨m, fun _ => 0, ρ⟩
    (fun r => (∀ c : Dev nD, r.2.mem ((c.tc : Thread nD τ).loc main_v21) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  Pipeline.θ_run_regions_kit_dev_sems (pcfgs (F := F)) adm (dats m) () cellOf_inj EP defs₀ 𝒱₀ L lv m ρ main (stretches m)
    (fun c Q => by
      rewrite [main_chain c, Seg.run_eq_chain,
        show (stretches m c).map Seg.prog = [StableHlo.seq (hostOps0 c), Prog.lift (.customCall (Pipeline.entry 0) ())] from rfl]
      dsimp (config := { failIfUnchanged := false }) only
      exact .rfl)
    (fun c => by simp only [segs, Seg.pipes_host, Seg.pipes_region, Seg.pipes_nil]; decide)
    O₀ L_of_ne G (u₀ (F := F))
    (by
      unfold u₀ G
      iintro Hu
      ihave H := (ownU_pair _ _) $$ Hu
      icases H with ⟨HP, HX⟩
      imodintro
      isplitl [HP]; · iexact HP
      rw [bigSep_parked]; iexact HX)
    (T₀ m) (Tₙ m)
    (fun c => ⟨.rfl, reg_pre m c, (reg_post m c).trans (by unfold Tₙ; exact .rfl)⟩)
    (init m ρ)
    (fun c s => (s.mem ((c.tc : Thread nD τ).loc main_v21) = result m c
        ∧ s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_arg2) = m ((c.tc : Thread nD τ).loc main_arg2)
        ∧ s.mem ((c.tc : Thread nD τ).loc main_arg3) = m ((c.tc : Thread nD τ).loc main_arg3)
        ∧ s.mem ((c.tc : Thread nD τ).loc main_arg4) = m ((c.tc : Thread nD τ).loc main_arg4)) ∧ s.sem (bar c) = 0)
    (fun c s' => by
      unfold Tₙ StableHlo.held
      iintro ⟨⟨Hh, Hb⟩, HSI⟩
      icombine HSI Hb gives %hb
      ihave Hr := (pointsTo_read_all (Pipeline.ucRefs τ sig) (fun b => ((c : Thread nD τ).1, b)) (V2 m c) s') $$ [Hh HSI]
      · isplitl [Hh] <;> iassumption
      icases Hr with ⟨%h, HSI⟩
      imodintro
      isplitr
      · ipureintro
        refine ⟨⟨(h _ (in_held main_v21 (by decide))).trans (V2_result m c), ?_, ?_, ?_, ?_, ?_⟩, by simpa using hb⟩
        · exact ((h _ (in_held main_arg0 (by decide))).trans (V2_off m c main_arg0 (by decide))).trans (V1_of m c main_arg0 (by decide))
        · exact ((h _ (in_held main_arg1 (by decide))).trans (V2_off m c main_arg1 (by decide))).trans (V1_of m c main_arg1 (by decide))
        · exact ((h _ (in_held main_arg2 (by decide))).trans (V2_off m c main_arg2 (by decide))).trans (V1_of m c main_arg2 (by decide))
        · exact ((h _ (in_held main_arg3 (by decide))).trans (V2_off m c main_arg3 (by decide))).trans (V1_of m c main_arg3 (by decide))
        · exact ((h _ (in_held main_arg4 (by decide))).trans (V2_off m c main_arg4 (by decide))).trans (V1_of m c main_arg4 (by decide))
      iexact HSI)
    (fun s h hs => ⟨fun c => (h c).1, sem_eq_zero hs fun c sm hsm => by
        obtain rfl := unscoped_eq sm hsm
        exact (h c).2⟩)

end Cert.KernelIdeal.Talk

end
-- ==== Proof.Frame.lean ====
/- The kernel over bit patterns: its text is that of the kernel over any floats, so the same run serves. -/
module

public import proofs.«01_k».proof.Proof.Gen.Kernel
public import proofs.«01_k».proof.Proof.Launch
public import proofs.«01_k».proof.Defs

@[expose] public section

noncomputable section

namespace Cert.Proof

open Idealize.ShloMosaic Idealize.SL.Sem

/-- The two programs have one body table, -/
theorem defs₀_same : Cert.Kernel.defs₀ (F := Bits) = Cert.KernelIdeal.defs₀ (F := Bits) := by
  unfold Cert.Kernel.defs₀ Cert.KernelIdeal.defs₀
  refine congrArg Defs.onTc (funext fun l => ?_)
  match l with
  | ⟨0, _⟩ => rfl
/-- the same pipelines over it, -/
theorem defs_same : Cert.Kernel.defs (F := Bits) = Cert.KernelIdeal.defs (F := Bits) :=
  congrArg (Pipeline.defs (Cert.KernelIdeal.pcfgs (F := Bits))) defs₀_same
/-- and one @main. -/
theorem main_same : Cert.Kernel.main (F := Bits) = Cert.KernelIdeal.main (F := Bits) := rfl

/-- The kernel's run over bit patterns, read at its arguments and its counters. -/
theorem frame_kernel : Cert.quiescent_Kernel := fun m ρ _ => by
  rw [defs_same, main_same]
  exact (θ_run Cert.KernelIdeal.defs _ _).mono (fun _ h => ⟨fun c => (h.1 c).2, h.2⟩) (Cert.KernelIdeal.Talk.run_main (F := Bits) m ρ)

/-- The same over the extended reals. -/
theorem frame_ideal : Cert.quiescent_KernelIdeal := fun m ρ _ =>
  (θ_run Cert.KernelIdeal.defs _ _).mono (fun _ h => ⟨fun c => (h.1 c).2, h.2⟩) (Cert.KernelIdeal.Talk.run_main (F := Ideal) m ρ)

end Cert.Proof

end
-- ==== Proof.Quant.lean ====
/-
  The int8 rounding of a line of weights, over the extended reals: its scale, its integers, and that the integers lie in
  [-127, 127], so that clipping them, or passing them through an eight-bit word, changes nothing.
-/
module

public import Idealize.ShloMosaic.PureOps.Ideal.Laws

@[expose] public section

namespace Cert.Attn

open Idealize.ShloMosaic

/-- 127, its opposite, the least scale and an eighth, as the programs write them. -/
noncomputable def c127 : EReal := Ideal.ofBits .f32 0x42FE0000#32
noncomputable def cNeg127 : EReal := Ideal.ofBits .f32 0xC2FE0000#32
noncomputable def cEps : EReal := Ideal.ofBits .f32 0x322BCC77#32
noncomputable def cEighth : EReal := Ideal.ofBits .f32 0x3E000000#32

/-- The word of 127. -/
theorem c127_eq : c127 = ((127 : ℝ) : EReal) := by
  simp [c127, Ideal.ofBits, Ideal.ieee]; norm_num; rw [← EReal.coe_mul]; norm_num
/-- The word of -127. -/
theorem cNeg127_eq : cNeg127 = ((-127 : ℝ) : EReal) := by
  simp [cNeg127, Ideal.ofBits, Ideal.ieee]; norm_num; rw [← EReal.coe_mul]; norm_num
/-- The word of an eighth. -/
theorem cEighth_eq : cEighth = ((1 / 8 : ℝ) : EReal) := by
  simp [cEighth, Ideal.ofBits, Ideal.ieee]; norm_num; rw [← EReal.coe_mul]; norm_num
/-- The least scale is a positive number. -/
theorem cEps_eq : ∃ e : ℝ, 0 < e ∧ cEps = (e : EReal) :=
  ⟨11258999 * (2 : ℝ) ^ (-50 : ℤ), by positivity, by simp [cEps, Ideal.ofBits, Ideal.ieee]⟩
/-- The word of minus infinity. -/
theorem neg_inf_eq : Ideal.ofBits .f32 0xFF800000#32 = ⊥ := by simp [Ideal.ofBits, Ideal.ieee]
/-- The word of infinity. -/
theorem inf_eq : Ideal.ofBits .f32 0x7F800000#32 = ⊤ := by simp [Ideal.ofBits, Ideal.ieee]

/-- The greater of two numbers, as an extended real. -/
theorem coe_max (x y : ℝ) : ((max x y : ℝ) : EReal) = max (x : EReal) (y : EReal) := EReal.coe_strictMono.monotone.map_max
/-- The lesser of two numbers, as an extended real. -/
theorem coe_min (x y : ℝ) : ((min x y : ℝ) : EReal) = min (x : EReal) (y : EReal) := EReal.coe_strictMono.monotone.map_min

variable {n : ℕ}

/-- The greatest magnitude of a line. -/
noncomputable def amax (a : Fin n → EReal) : EReal := Finset.univ.fold max ⊥ fun k => max (a k) (-(a k))
/-- The scale of a line: its greatest magnitude over 127, and no less than the least scale. -/
noncomputable def scl (a : Fin n → EReal) : EReal := max (Ideal.div (amax a) c127) cEps
/-- A weight over a scale, rounded to an integer. -/
noncomputable def rnd (w s : EReal) : EReal := Ideal.liftRound Ideal.roundHalfEven (Ideal.div w s)

/-- Every magnitude is at most the greatest. -/
theorem le_amax (a : Fin n → EReal) (k : Fin n) : max (a k) (-(a k)) ≤ amax a :=
  Finset.le_sup (f := fun k => max (a k) (-(a k))) (Finset.mem_univ k)

/-- A magnitude is at least zero. -/
theorem mag_nonneg (x : EReal) : 0 ≤ max x (-x) := by
  rcases le_total 0 x with h | h
  · exact le_max_of_le_left h
  · exact le_max_of_le_right (by simpa using EReal.neg_le_neg_iff.mpr h)

/-- Rounding to the nearest integer keeps a number between two integers there. -/
theorem round_between (r : ℝ) (lo hi : ℤ) (h₀ : (lo : ℝ) ≤ r) (h₁ : r ≤ (hi : ℝ)) : lo ≤ Ideal.roundHalfEven r ∧ Ideal.roundHalfEven r ≤ hi := by
  have hlo : lo ≤ ⌊r⌋ := Int.le_floor.mpr h₀
  have hhi : ⌊r⌋ ≤ hi := by exact_mod_cast (Int.floor_le r).trans h₁
  unfold Ideal.roundHalfEven
  by_cases he : ⌊r⌋ = hi
  · have : r - ⌊r⌋ = 0 := by rw [he]; have := Int.floor_le r; rw [he] at this; linarith
    simp only [this]
    norm_num
    omega
  · have : ⌊r⌋ + 1 ≤ hi := by omega
    dsimp only
    split_ifs <;> omega

/-- A line's scale is infinite, and all its integers are zero, or it is a positive number. In either case an entry's integer is an
    integer in [-127, 127]. -/
theorem rnd_int (a : Fin n → EReal) (k : Fin n) :
    ∃ z : ℤ, rnd (a k) (scl a) = ((z : ℝ) : EReal) ∧ -127 ≤ z ∧ z ≤ 127 ∧ (scl a = ⊤ → z = 0) := by
  obtain ⟨e, he, hE⟩ := cEps_eq
  have hk := le_amax a k
  have hA0 : 0 ≤ amax a := (mag_nonneg _).trans hk
  by_cases hA : amax a = ⊤
  · refine ⟨0, ?_, by norm_num, by norm_num, fun _ => rfl⟩
    have hs : scl a = ⊤ := by
      rw [scl, hA, c127_eq, Ideal.div_coe (by norm_num), EReal.top_mul_coe_of_pos (by norm_num)]; exact max_eq_left le_top
    rw [rnd, hs, Ideal.div, if_neg (by simp), EReal.inv_top, mul_zero]
    rw [← EReal.coe_zero, Ideal.liftRound_coe]
    norm_num [Ideal.roundHalfEven]
  · obtain ⟨A, hAr⟩ : ∃ A : ℝ, amax a = (A : EReal) := ⟨(amax a).toReal, (EReal.coe_toReal hA (ne_bot_of_le_ne_bot (by simp) hA0)).symm⟩
    have hwT : a k ≠ ⊤ := fun h => by rw [h] at hk; exact hA (top_le_iff.mp ((le_max_left _ _).trans hk))
    have hwB : a k ≠ ⊥ := fun h => by rw [h] at hk; exact hA (top_le_iff.mp ((by simp : (⊤ : EReal) ≤ max ⊥ (-⊥)).trans hk))
    obtain ⟨w, hw⟩ : ∃ w : ℝ, a k = (w : EReal) := ⟨(a k).toReal, (EReal.coe_toReal hwT hwB).symm⟩
    have hs : scl a = ((max (A * (1 / 127)) e : ℝ) : EReal) := by
      rw [scl, hAr, c127_eq, hE, Ideal.div_coe (by norm_num), ← EReal.coe_mul]; exact (coe_max _ _).symm
    have hs0 : 0 < max (A * (1 / 127)) e := lt_max_of_lt_right he
    have hwA : |w| ≤ A := by
      rw [hw, hAr, ← EReal.coe_neg, ← coe_max, EReal.coe_le_coe_iff] at hk
      exact hk
    have hb : |w * (1 / max (A * (1 / 127)) e)| ≤ 127 := by
      rw [abs_mul, abs_of_pos (by positivity : (0 : ℝ) < 1 / max (A * (1 / 127)) e), mul_one_div, div_le_iff₀ hs0]
      have := le_max_left (A * (1 / 127)) e
      linarith
    have hr := round_between (w * (1 / max (A * (1 / 127)) e)) (-127) 127 (by push_cast; exact (abs_le.mp hb).1) (by push_cast; exact (abs_le.mp hb).2)
    refine ⟨Ideal.roundHalfEven (w * (1 / max (A * (1 / 127)) e)), ?_, hr.1, hr.2, fun h => ?_⟩
    · rw [rnd, hw, hs, Ideal.div_coe hs0.ne', ← EReal.coe_mul, Ideal.liftRound_coe]
    · rw [hs] at h; exact absurd h (EReal.coe_ne_top _)

/-- A line's scale is positive. -/
theorem scl_pos (a : Fin n → EReal) : 0 < scl a := by
  obtain ⟨e, he, hE⟩ := cEps_eq
  refine lt_of_lt_of_le ?_ (le_max_right _ _)
  rw [hE]; exact_mod_cast he

/-- Clipping an entry's integer to [-127, 127] leaves it. -/
theorem clip_rnd (a : Fin n → EReal) (k : Fin n) : min c127 (max cNeg127 (rnd (a k) (scl a))) = rnd (a k) (scl a) := by
  obtain ⟨z, hz, h₀, h₁, -⟩ := rnd_int a k
  rw [hz, c127_eq, cNeg127_eq, ← coe_max, ← coe_min]
  have h₀' : (-127 : ℝ) ≤ z := by exact_mod_cast h₀
  have h₁' : (z : ℝ) ≤ 127 := by exact_mod_cast h₁
  rw [max_eq_right h₀', min_eq_right h₁']

/-- Passing an entry's integer through an eight-bit word leaves it. -/
theorem int8_rnd (a : Fin n → EReal) (k : Fin n) : (((Ideal.fptosi 8 (rnd (a k) (scl a))).toInt : ℝ) : EReal) = rnd (a k) (scl a) := by
  obtain ⟨z, hz, h₀, h₁, -⟩ := rnd_int a k
  rw [hz, Ideal.fptosi, Ideal.toIntClamped_coe, Int.floor_intCast, Int.ceil_intCast, ite_self]
  have : max (-((2 ^ (8 - 1) : ℕ) : ℤ)) (min (((2 ^ (8 - 1) : ℕ) : ℤ) - 1) z) = z := by norm_num; omega
  rw [this, BitVec.toInt_ofInt, Int.bmod_eq_of_le (by norm_num; omega) (by norm_num; omega)]

end Cert.Attn
-- ==== Proof.Soft.lean ====
/-
  One entry of a head's context, over the extended reals, as the reference states it (queries from weights already scaled, scores
  times an eighth, the softmax of the masked scores) and as the kernel computes it (the scale and the eighth after the product, no
  shift by the greatest score, one division at the end); and that the two agree when the row and the keys are finite.
-/
module

public import proofs.«01_k».proof.Proof.Quant

@[expose] public section

namespace Cert.Attn

open Idealize.ShloMosaic

variable {n m d : ℕ}

/-- A finite sum of numbers, as an extended real. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A finite sum times a number that is not negative. -/
theorem sum_mul_coe {ι : Type} (s : Finset ι) (f : ι → EReal) (c : ℝ) (hc : 0 ≤ c) : (∑ j ∈ s, f j) * (c : EReal) = ∑ j ∈ s, f j * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-! ## A query -/

/-- A row times one column of weights rounded to integers and scaled back. -/
noncomputable def qRef (x w : Fin m → EReal) : EReal := ∑ k, x k * (rnd (w k) (scl w) * scl w)
/-- A row times one column of integers, then the scale and the eighth. -/
noncomputable def qKer (x w : Fin m → EReal) : EReal := (∑ k, x k * rnd (w k) (scl w)) * (scl w * cEighth)

/-- The reference's query is a number, and the kernel's is an eighth of it. -/
theorem query (x w : Fin m → EReal) (hx : ∀ k, ∃ r : ℝ, x k = (r : EReal)) :
    ∃ q : ℝ, qRef x w = (q : EReal) ∧ qKer x w = ((q * (1 / 8) : ℝ) : EReal) := by
  choose xr hxr using hx
  choose z hz h₀ h₁ h₂ using rnd_int w
  by_cases hs : scl w = ⊤
  · refine ⟨0, ?_, ?_⟩
    · refine (Finset.sum_eq_zero fun k _ => ?_).trans EReal.coe_zero.symm
      rw [hz k, h₂ k hs]; simp
    · unfold qKer
      rw [Finset.sum_eq_zero fun k _ => by rw [hz k, h₂ k hs]; simp]; simp
  · obtain ⟨s, hsr⟩ : ∃ s : ℝ, scl w = (s : EReal) := ⟨_, (EReal.coe_toReal hs (ne_bot_of_gt (scl_pos w))).symm⟩
    refine ⟨∑ k, xr k * (z k * s), ?_, ?_⟩
    · rw [coe_sum]; exact Finset.sum_congr rfl fun k _ => by rw [hxr k, hz k, hsr, ← EReal.coe_mul, ← EReal.coe_mul]
    · have : ∑ k, x k * rnd (w k) (scl w) = ((∑ k, xr k * z k : ℝ) : EReal) := by
        rw [coe_sum]; exact Finset.sum_congr rfl fun k _ => by rw [hxr k, hz k, ← EReal.coe_mul]
      rw [qKer, this, hsr, cEighth_eq, ← EReal.coe_mul, ← EReal.coe_mul]
      congr 1
      rw [Finset.sum_mul, Finset.sum_mul]
      exact Finset.sum_congr rfl fun k _ => by ring

/-! ## A score -/

/-- A query against a key, times an eighth. -/
noncomputable def sRef (x : Fin m → EReal) (W : Fin d → Fin m → EReal) (key : Fin d → EReal) : EReal := (∑ e, qRef x (W e) * key e) * cEighth
/-- A query that carries the eighth against a key. -/
noncomputable def sKer (x : Fin m → EReal) (W : Fin d → Fin m → EReal) (key : Fin d → EReal) : EReal := ∑ e, qKer x (W e) * key e

/-- The two scores are one number. -/
theorem score (x : Fin m → EReal) (W : Fin d → Fin m → EReal) (key : Fin d → EReal) (hx : ∀ k, ∃ r : ℝ, x k = (r : EReal))
    (hk : ∀ e, ∃ r : ℝ, key e = (r : EReal)) : ∃ s : ℝ, sRef x W key = (s : EReal) ∧ sKer x W key = (s : EReal) := by
  choose kr hkr using hk
  choose q h₁ h₂ using fun e => query x (W e) hx
  refine ⟨(∑ e, q e * kr e) * (1 / 8), ?_, ?_⟩
  · rw [EReal.coe_mul, coe_sum, sRef, cEighth_eq]
    exact congrArg (· * _) (Finset.sum_congr rfl fun e _ => by rw [h₁ e, hkr e, ← EReal.coe_mul])
  · rw [Finset.sum_mul, coe_sum]
    exact Finset.sum_congr rfl fun e _ => by rw [h₂ e, hkr e, ← EReal.coe_mul]; congr 1; ring

/-! ## A context entry -/

/-- A score where the mask holds, minus infinity elsewhere. -/
noncomputable def msk (p : Fin n → Bool) (s : Fin n → EReal) (j : Fin n) : EReal := if p j then s j else ⊥
/-- The greatest masked score. -/
noncomputable def smax (p : Fin n → Bool) (s : Fin n → EReal) : EReal := Finset.univ.fold max ⊥ (msk p s)
/-- The softmax of the masked scores, weighing the values. -/
noncomputable def cRef (p : Fin n → Bool) (s v : Fin n → EReal) : EReal :=
  ∑ j, v j * Ideal.div (Ideal.exp (msk p s j - smax p s)) (∑ j', Ideal.exp (msk p s j' - smax p s))
/-- A weight before normalising: the exponential of the score where the mask holds, zero elsewhere. -/
noncomputable def wKer (p : Fin n → Bool) (s : Fin n → EReal) (j : Fin n) : EReal := if p j then Ideal.exp (s j) else 0
/-- The values weighed by the exponentials of the scores, over the sum of the exponentials. -/
noncomputable def cKer (p : Fin n → Bool) (s v : Fin n → EReal) : EReal := Ideal.div (∑ j, wKer p s j * v j) (∑ j, wKer p s j)

/-- Where the mask holds somewhere and the scores are numbers, the two entries agree, whatever the values. -/
theorem ctx_eq (p : Fin n → Bool) (s v : Fin n → EReal) (j₀ : Fin n) (hp : p j₀ = true) (hs : ∀ j, ∃ r : ℝ, s j = (r : EReal)) :
    cKer p s v = cRef p s v := by
  choose r hr using hs
  have hM : ∃ M : ℝ, smax p s = (M : EReal) := by
    have h₁ : (r j₀ : EReal) ≤ smax p s := by
      have : msk p s j₀ ≤ smax p s := Finset.le_sup (f := msk p s) (Finset.mem_univ j₀)
      rwa [msk, if_pos hp, hr] at this
    have h₂ : smax p s < ⊤ := (Finset.sup_lt_iff (f := msk p s) (s := Finset.univ) (by simp : (⊥ : EReal) < ⊤)).mpr fun j _ => by
      unfold msk; split_ifs
      · rw [hr]; exact EReal.coe_lt_top _
      · simp
    exact ⟨_, (EReal.coe_toReal h₂.ne (ne_bot_of_le_ne_bot (EReal.coe_ne_bot _) h₁)).symm⟩
  obtain ⟨M, hM⟩ := hM
  have hw : ∀ j, wKer p s j = ((if p j then Real.exp (r j) else 0 : ℝ) : EReal) := fun j => by
    unfold wKer; split_ifs
    · rw [hr, Ideal.exp_coe]
    · rfl
  have he : ∀ j, Ideal.exp (msk p s j - smax p s) = (((if p j then Real.exp (r j) else 0) * Real.exp (-M) : ℝ) : EReal) := fun j => by
    rw [hM]; unfold msk; split_ifs
    · rw [hr, ← EReal.coe_sub, Ideal.exp_coe, sub_eq_add_neg, Real.exp_add]
    · rw [EReal.bot_sub, Ideal.exp_bot, zero_mul]; rfl
  have hD : 0 < ∑ j, (if p j then Real.exp (r j) else 0) := by
    refine Finset.sum_pos' (fun j _ => by split_ifs <;> positivity) ⟨j₀, Finset.mem_univ _, ?_⟩
    rw [if_pos hp]; positivity
  have hE : 0 < Real.exp (-M) := Real.exp_pos _
  unfold cKer cRef
  simp only [he]
  rw [← coe_sum, ← Finset.sum_mul, Finset.sum_congr rfl fun j _ => hw j, ← coe_sum, Ideal.div_coe hD.ne', sum_mul_coe _ _ _ (by positivity)]
  refine Finset.sum_congr rfl fun j _ => ?_
  rw [Ideal.div_coe (by positivity), hw j, mul_comm _ (v j), mul_assoc, ← EReal.coe_mul, ← EReal.coe_mul]
  congr 2
  field_simp

/-! ## A head -/

/-- One entry of a head's context: the row, the head's columns of weights, its keys, the values' column. -/
noncomputable def hRef (p : Fin n → Bool) (x : Fin m → EReal) (W : Fin d → Fin m → EReal) (key : Fin n → Fin d → EReal) (v : Fin n → EReal) : EReal :=
  cRef p (fun j => sRef x W (key j)) v
/-- The same as the kernel computes it. -/
noncomputable def hKer (p : Fin n → Bool) (x : Fin m → EReal) (W : Fin d → Fin m → EReal) (key : Fin n → Fin d → EReal) (v : Fin n → EReal) : EReal :=
  cKer p (fun j => sKer x W (key j)) v

/-- With a finite row and finite keys the two agree. -/
theorem head_eq (p : Fin n → Bool) (x : Fin m → EReal) (W : Fin d → Fin m → EReal) (key : Fin n → Fin d → EReal) (v : Fin n → EReal)
    (j₀ : Fin n) (hp : p j₀ = true) (hx : ∀ k, ∃ r : ℝ, x k = (r : EReal)) (hk : ∀ j e, ∃ r : ℝ, key j e = (r : EReal)) :
    hKer p x W key v = hRef p x W key v := by
  choose s h₁ h₂ using fun j => score x W (key j) hx (hk j)
  have : (fun j => sKer x W (key j)) = fun j => sRef x W (key j) := funext fun j => by rw [h₁, h₂]
  rw [hKer, hRef, this]
  exact ctx_eq p _ v j₀ hp fun j => ⟨s j, h₁ j⟩

/-! ## An output entry -/

/-- The context scaled against integers is the context against integers scaled back. -/
theorem out_term (c s w : EReal) : c * s * w = c * (w * s) := by rw [mul_assoc, mul_comm s w]

/-- A sum over four times n is the four sums over n, added in any order. -/
theorem sum_chunks (f : Fin 4 → Fin n → EReal) (σ : Equiv.Perm (Fin 4)) (g : Fin (4 * n) → EReal) (hg : ∀ a b, g (finProdFinEquiv (a, b)) = f a b) :
    ∑ i, g i = ((∑ b, f (σ 0) b + ∑ b, f (σ 1) b) + ∑ b, f (σ 2) b) + ∑ b, f (σ 3) b := by
  rw [← (finProdFinEquiv (m := 4) (n := n)).sum_comp, Fintype.sum_prod_type]
  simp only [hg]
  rw [← Equiv.sum_comp σ fun a => ∑ b, f a b, Fin.sum_univ_four]

end Cert.Attn
-- ==== Proof.KernelWeights.lean ====
/-
  The kernel's quantiser read at an index: each device's scales and integers are those of its own columns of the query weights and
  rows of the output weights.
-/
module

public import proofs.«01_k».proof.Proof.Chunk
public import proofs.«01_k».proof.Proof.Soft
public import Idealize.ShloMosaic.Lib.Pointwise

@[expose] public section

namespace Cert.KernelIdeal.Talk

open Idealize.ShloMosaic Cert.KernelIdeal.Gen Cert.Attn

/-- A query weight's scale is its column's. -/
theorem pay2_apply (w : Vec Ideal S512x256 .f32) (n : Fin 256) : k0_pay2 (F := Ideal) w (ix2 (0 : Fin 1) n) = scl fun k : Fin 512 => w (ix2 k n) := by
  unfold k0_pay2
  pointwise [k0_pay1]
  exact (congrArg (fun b => max (Ideal.div (Finset.fold max b (fun k : Fin 512 => max (w (ix2 k n)) (-(w (ix2 k n)))) Finset.univ) c127) cEps) neg_inf_eq)

/-- The stored scale is the same. -/
theorem pay7_apply (w : Vec Ideal S512x256 .f32) (n : Fin 256) : k0_pay7 (F := Ideal) w (ix2 (0 : Fin 1) n) = scl fun k : Fin 512 => w (ix2 k n) := by
  rw [← pay2_apply]
  pointwise [k0_pay7]

/-- A query weight's integer, as a float. -/
theorem pay3_apply (w : Vec Ideal S512x256 .f32) (k : Fin 512) (n : Fin 256) :
    sitofp (F := Ideal) .bf16 (k0_pay3 (F := Ideal) w) (ix2 k n) = rnd (w (ix2 k n)) (scl fun k : Fin 512 => w (ix2 k n)) := by
  rw [← int8_rnd (fun k : Fin 512 => w (ix2 k n)) k, ← pay2_apply]
  pointwise [k0_pay3, k0_pay1, rnd]
  rfl

/-- An output weight's scale is its row's. -/
theorem pay5_apply (w : Vec Ideal S256x512 .f32) (n : Fin 256) : k0_pay5 (F := Ideal) w (ix2 n (0 : Fin 1)) = scl fun k : Fin 512 => w (ix2 n k) := by
  unfold k0_pay5
  pointwise [k0_pay4]
  exact (congrArg (fun b => max (Ideal.div (Finset.fold max b (fun k : Fin 512 => max (w (ix2 n k)) (-(w (ix2 n k)))) Finset.univ) c127) cEps) neg_inf_eq)

/-- The stored scale is the same. -/
theorem pay8_apply (w : Vec Ideal S256x512 .f32) (n : Fin 256) : k0_pay8 (F := Ideal) (k0_pay5 w) (ix2 (0 : Fin 1) n) = scl fun k : Fin 512 => w (ix2 n k) := by
  rw [← pay5_apply]
  pointwise [k0_pay8]

/-- An output weight's integer, as a float. -/
theorem pay6_apply (w : Vec Ideal S256x512 .f32) (n : Fin 256) (k : Fin 512) :
    sitofp (F := Ideal) .bf16 (k0_pay6 (F := Ideal) w) (ix2 n k) = rnd (w (ix2 n k)) (scl fun k : Fin 512 => w (ix2 n k)) := by
  rw [← int8_rnd (fun k : Fin 512 => w (ix2 n k)) k, ← pay5_apply]
  pointwise [k0_pay6, k0_pay4, rnd]
  rfl

end Cert.KernelIdeal.Talk
-- ==== Proof.KernelHeads.lean ====
/-
  The kernel's arithmetic for one origin, read at an index: a query, a head's context entry, a contribution to the output.
-/
module

public import proofs.«01_k».proof.Proof.KernelWeights

@[expose] public section

namespace Cert.KernelIdeal.Talk

open Idealize.ShloMosaic Cert.KernelIdeal.Gen Cert.Attn

/-- Position j is within the window of position i. -/
def band (i j : Fin 256) : Bool := IntOp.cmpi .sle (IntOp.absi (IntOp.subi (BitVec.ofNat 32 i.val) (BitVec.ofNat 32 j.val))) 128#32 == 1#1
/-- A position is within its own window. -/
theorem band_self (i : Fin 256) : band i i = true := by
  unfold band IntOp.subi
  rw [BitVec.sub_self]
  decide

/-- A row of x against one origin's integers, times the scale and an eighth. -/
theorem qOf_apply (xb : FVec Ideal S512x512 .bf16) (w : Vec Ideal S512x256 .f32) (r : Fin 512) (n : Fin 256) :
    qOf (F := Ideal) xb (k0_pay3 w) (k0_pay7 w) (ix2 r n) = qKer (fun k : Fin 512 => xb (ix2 r k)) (fun k : Fin 512 => w (ix2 k n)) := by
  unfold qOf qKer
  pointwise [k0_pay13]
  refine congrArg₂ (· * ·) (Finset.sum_congr rfl fun k _ => congrArg (xb (ix2 r k) * ·) (pay3_apply w k n)) ?_
  rw [pay7_apply]; rfl

/-- The rows of x: batch row b's row i. -/
theorem xbA_apply (x0 : Vec Ideal S2x256x512 .f32) (b : Fin 2) (i : Fin 256) (k : Fin 512) (r : Fin 512) (hr : r.val = 256 * b.val + i.val) :
    xbA (F := Ideal) x0 (ix2 r k) = x0 (ix3 b i k) := by
  unfold xbA
  have hm : r.val % 256 = i.val := by have := i.isLt; omega
  have hx (b : Fin 2) : x0 (ix3 b (⟨r.val % 256, Nat.mod_lt _ (by decide)⟩ : Fin 256) k) = x0 (ix3 b i k) := congrArg (fun a => x0 (ix3 b a k)) (Fin.ext hm)
  have h9 (z : Vec Ideal S1x256x512 .f32) (a : Fin 256) : k0_pay9 z (ix2 a k) = z (ix3 (0 : Fin 1) a k) := by pointwise [k0_pay9]
  have h10 (z : Vec Ideal S1x256x512 .f32) (a : Fin 256) : k0_pay10 z (ix2 a k) = z (ix3 (0 : Fin 1) a k) := by pointwise [k0_pay10]
  have hb : b = 0 ∨ b = 1 := by omega
  obtain rfl | rfl := hb
  · refine (if_pos (show r.val < 256 by have := i.isLt; simp at hr; omega)).trans ?_
    exact (h9 _ _).trans (hx 0)
  · refine (if_neg (show ¬ r.val < 256 by simp at hr; omega)).trans ?_
    exact (h10 _ _).trans (hx 1)

/-- A weight before normalising. -/
theorem bandE_apply (qh kh : FVec Ideal S256x64 .bf16) (i j : Fin 256) :
    bandE (F := Ideal) qh kh (ix2 i j) = wKer (band i) (fun j => ∑ e : Fin 64, qh (ix2 i e) * kh (ix2 j e)) j := by
  unfold bandE wKer band
  pointwise [k0_pay11]
  by_cases h : IntOp.cmpi .sle (IntOp.absi (IntOp.subi (BitVec.ofNat 32 i.val) (BitVec.ofNat 32 j.val))) 128#32 = 1#1
  · rw [if_pos (by rw [h]; rfl)]; exact if_pos h
  · rw [if_neg (by rwa [beq_iff_eq])]; exact if_neg h

/-- A context entry of a head. -/
theorem headV_apply (qh kh vh : FVec Ideal S256x64 .bf16) (i : Fin 256) (d : Fin 64) :
    headV (F := Ideal) qh kh vh (ix2 i d) = cKer (band i) (fun j => ∑ e : Fin 64, qh (ix2 i e) * kh (ix2 j e)) (fun j => vh (ix2 j d)) := by
  unfold headV cKer
  pointwise [headV]
  simp only [bandE_apply]

/-- A contribution to the output. -/
theorem partF_apply (w : Vec Ideal S256x512 .f32) (r : FVec Ideal S256x256 .bf16) (i : Fin 256) (k : Fin 512) :
    partF (F := Ideal) (k0_pay8 (k0_pay5 w)) (sitofp .bf16 (k0_pay6 w)) r (ix2 i k)
      = ∑ n : Fin 256, r (ix2 i n) * (scl fun k : Fin 512 => w (ix2 n k)) * rnd (w (ix2 n k)) (scl fun k : Fin 512 => w (ix2 n k)) := by
  unfold partF
  pointwise
  exact Finset.sum_congr rfl fun n _ => congrArg₂ (fun a b => r (ix2 i n) * a * b) (pay8_apply w n) (pay6_apply w n k)

end Cert.KernelIdeal.Talk
-- ==== Proof.KernelValue.lean ====
/-
  What one device writes, read at an index: the sum, over the four origins in the kernel's order and over the 256 columns of an origin's
  four heads, of a head's context entry times its output weight.
-/
module

public import proofs.«01_k».proof.Proof.KernelHeads

@[expose] public section

namespace Cert.KernelIdeal.Talk

open Idealize.ShloMosaic Cert.KernelIdeal.Gen Cert.Attn

/-- The head of a column, within its origin, and the column within the head. -/
def hd (n : Fin 256) : Fin 4 := ⟨n.val / 64, by have := n.isLt; omega⟩
def cl (n : Fin 256) : Fin 64 := ⟨n.val % 64, Nat.mod_lt _ (by decide)⟩
/-- The column of a head's entry. -/
def hc (h : Fin 4) (e : Fin 64) : Fin 256 := ⟨64 * h.val + e.val, by have := h.isLt; have := e.isLt; omega⟩
/-- A batch row's row, of the two stacked. -/
def br (b : Fin 2) (i : Fin 256) : Fin 512 := ⟨256 * b.val + i.val, by have := b.isLt; have := i.isLt; omega⟩
/-- The row of a device's keys or values that a batch row, an origin and a head name. -/
def kr (b : Fin 2) (d : Dev nD) (h : Fin 4) : Fin 32 := ⟨16 * b.val + 4 * d.val + h.val, by have := b.isLt; have : d.val < 4 := d.isLt; have := h.isLt; omega⟩

/-- A batch row of a context array. -/
theorem ctxRow_apply (g : FVec Ideal S512x256 .bf16) (b : Fin 2) (i n : Fin 256) : ctxRow (F := Ideal) g b (ix2 i n) = g (ix2 (br b i) n) := by
  refine congrArg g (funext fun a => ?_)
  fin_cases a
  · exact Fin.ext (show 256 * b.val + 1 * i.val = 256 * b.val + i.val by omega)
  · exact Fin.ext (show 0 + 1 * n.val = n.val by omega)

/-- A context array's entry is its block's. -/
theorem ctxG_apply (p : Fin 2 → Fin 4 → FVec Ideal S256x64 .bf16) (b : Fin 2) (i n : Fin 256) :
    ctxG (F := Ideal) p (ix2 (br b i) n) = p b (hd n) (ix2 i (cl n)) := by
  have h₁ : (256 * b.val + i.val) / 256 = b.val := by have := i.isLt; omega
  have h₂ : (256 * b.val + i.val) % 256 = i.val := by have := i.isLt; omega
  exact congrArg₂ (fun b' i' => p b' (hd n) (ix2 i' (cl n))) (Fin.ext h₁) (Fin.ext h₂)

/-- A head of the queries. -/
theorem headQ_apply (q : FVec Ideal S512x256 .bf16) (b : Fin 2) (h : Fin 4) (i : Fin 256) (e : Fin 64) :
    headQ (F := Ideal) q b h (ix2 i e) = q (ix2 (br b i) (hc h e)) := by
  refine congrArg q (funext fun a => ?_)
  fin_cases a <;> exact Fin.ext rfl

/-- A head of an origin's keys or values. -/
theorem headK_apply (x : Vec Ideal S32x256x64 .bf16) (d : Dev nD) (b : Fin 2) (h : Fin 4) (j : Fin 256) (e : Fin 64) :
    headK (F := Ideal) (kvW x d b) h (ix2 j e) = x (ix3 (kr b d h) j e) := by
  have : headK (F := Ideal) (kvW x d b) h (ix2 j e) = kvW x d b (ix3 h j e) := by
    fin_cases h <;> pointwise [headK]
  exact this

variable (wq : Dev nD → Vec Ideal S512x256 .f32) (wo : Dev nD → Vec Ideal S256x512 .f32)
variable (x0 : Vec Ideal S2x256x512 .f32) (x2 x3 : Vec Ideal S32x256x64 .bf16)

/-- The context entry of batch row b, row i, at column n of origin d's heads. -/
noncomputable def entK (d : Dev nD) (b : Fin 2) (i n : Fin 256) : EReal :=
  hKer (band i) (fun k : Fin 512 => x0 (ix3 b i k)) (fun (e : Fin 64) (k : Fin 512) => wq d (ix2 k (hc (hd n) e)))
    (fun (j : Fin 256) (e : Fin 64) => x2 (ix3 (kr b d (hd n)) j e)) (fun j : Fin 256 => x3 (ix3 (kr b d (hd n)) j (cl n)))
/-- One term of origin d's contribution. -/
noncomputable def termK (d : Dev nD) (b : Fin 2) (i : Fin 256) (k : Fin 512) (n : Fin 256) : EReal :=
  entK wq x0 x2 x3 d b i n * (scl fun k : Fin 512 => wo d (ix2 n k)) * rnd (wo d (ix2 n k)) (scl fun k : Fin 512 => wo d (ix2 n k))

/-- The kernel's context entry. -/
theorem head_apply (d : Dev nD) (b : Fin 2) (i n : Fin 256) :
    headAt (F := Ideal) (qOf (xbA x0) (qA wq d) (k0_pay7 (wq d))) (kvW x2 d) (kvW x3 d) b (hd n) (ix2 i (cl n)) = entK wq x0 x2 x3 d b i n := by
  unfold headAt entK hKer sKer
  rw [headV_apply]
  simp only [headQ_apply, headK_apply]
  unfold qA
  simp only [qOf_apply, fun k => xbA_apply x0 b i k (br b i) rfl]

/-- An origin's contribution. -/
theorem partD_apply (d : Dev nD) (b : Fin 2) (i : Fin 256) (k : Fin 512) :
    partD (F := Ideal) wq wo x0 x2 x3 d b (ix2 i k) = ∑ n : Fin 256, termK wq wo x0 x2 x3 d b i k n := by
  unfold partD oA
  rw [partF_apply]
  simp only [ctxRow_apply, ctxG_apply, head_apply]
  rfl

/-- The output entry: the four contributions added. -/
theorem out_apply (c : Dev nD) (b : Fin 2) (i : Fin 256) (k : Fin 512) :
    accV (F := Ideal) (outB wq wo x0 x2 x3 c) (ix3 b i k)
      = ((∑ n : Fin 256, termK wq wo x0 x2 x3 c b i k n + ∑ n : Fin 256, termK wq wo x0 x2 x3 (pr 2 c) b i k n)
          + ∑ n : Fin 256, termK wq wo x0 x2 x3 (pr 0 c) b i k n) + ∑ n : Fin 256, termK wq wo x0 x2 x3 (pr 1 c) b i k n := by
  rw [← partD_apply, ← partD_apply, ← partD_apply, ← partD_apply]
  rfl

end Cert.KernelIdeal.Talk
-- ==== Proof.RefValue.lean ====
/-
  The reference's result in steps (the rounded weights, the masked scores, the softmax, the context, the output), and that the run's
  term is these steps.
-/
module

public import proofs.«01_k».proof.Proof.Gen.ReferenceIdeal.Run
public import Idealize.ShloMosaic.PureOps.Ideal.Laws

@[expose] public section

noncomputable section

namespace Cert.ReferenceIdeal.Talk

open Cert.ReferenceIdeal Cert.ReferenceIdeal.Gen Idealize.ShloMosaic Idealize.ShloMosaic.TcCoe

/-- The query weights' scales, one for each column. -/
def sqR (w : FVec Ideal S512x1024 .f32) : FVec Ideal S1x1024 .f32 :=
  maximumf (Host.divf (broadcastInDim S1x1024 ![1] bcast_S1024_S1x1024_1 (Host.reduce FloatOps.maximumf (Host.absf w) (constant S_ .f32 0xFF800000#32) reducesTo_S512x1024_S1024_d0 h_S_)) (broadcastInDim S1x1024 ![] bcast_S_S1x1024 (constant S_ .f32 0x42FE0000#32))) (broadcastInDim S1x1024 ![] bcast_S_S1x1024 (constant S_ .f32 0x322BCC77#32))
/-- The query weights rounded and scaled back. -/
def wqR (w : FVec Ideal S512x1024 .f32) : FVec Ideal S512x1024 .f32 :=
  mulf (minimumf (broadcastInDim S512x1024 ![] bcast_S_S512x1024 (id (constant S_ .f32 0x42FE0000#32))) (maximumf (broadcastInDim S512x1024 ![] bcast_S_S512x1024 (id (constant S_ .f32 0xC2FE0000#32))) (Host.roundeven (Host.divf w (broadcastInDim S512x1024 ![0, 1] bcast_S1x1024_S512x1024_0_1 (sqR w)))))) (broadcastInDim S512x1024 ![0, 1] bcast_S1x1024_S512x1024_0_1 (sqR w))
/-- The output weights' scales, one for each row. -/
def soR (w : FVec Ideal S1024x512 .f32) : FVec Ideal S1024x1 .f32 :=
  maximumf (Host.divf (broadcastInDim S1024x1 ![0] bcast_S1024_S1024x1_0 (Host.reduce FloatOps.maximumf (Host.absf w) (constant S_ .f32 0xFF800000#32) reducesTo_S1024x512_S1024_d1 h_S_)) (broadcastInDim S1024x1 ![] bcast_S_S1024x1 (constant S_ .f32 0x42FE0000#32))) (broadcastInDim S1024x1 ![] bcast_S_S1024x1 (constant S_ .f32 0x322BCC77#32))
/-- The output weights rounded and scaled back. -/
def woR (w : FVec Ideal S1024x512 .f32) : FVec Ideal S1024x512 .f32 :=
  mulf (minimumf (broadcastInDim S1024x512 ![] bcast_S_S1024x512 (id (constant S_ .f32 0x42FE0000#32))) (maximumf (broadcastInDim S1024x512 ![] bcast_S_S1024x512 (id (constant S_ .f32 0xC2FE0000#32))) (Host.roundeven (Host.divf w (broadcastInDim S1024x512 ![0, 1] bcast_S1024x1_S1024x512_0_1 (soR w)))))) (broadcastInDim S1024x512 ![0, 1] bcast_S1024x1_S1024x512_0_1 (soR w))
/-- The window. -/
def bandR : IVec S256x256 1 :=
  cmpi .sle (absi (subi (broadcastInDim S256x256 ![0, 1] bcast_S256x1_S256x256_0_1 (broadcastInDim S256x1 ![0] bcast_S256_S256x1_0 (iotaInDim S256 32 0))) (broadcastInDim S256x256 ![0, 1] bcast_S1x256_S256x256_0_1 (broadcastInDim S1x256 ![1] bcast_S256_S1x256_1 (iotaInDim S256 32 0))))) (broadcastInDim S256x256 ![] bcast_S_S256x256 (constantI S_ 32 128#32))
/-- The positions whose window is not empty. -/
def keepR : IVec S256 1 := Host.reduce IntOp.ori bandR (constantI S_ 1 0#1) reducesTo_S256x256_S256_d1 h_S_
/-- The queries. -/
def qR (x : FVec Ideal S8x256x512 .f32) (w : FVec Ideal S512x1024 .f32) : FVec Ideal S8x256x1024 .f32 :=
  Host.dotGeneral dot_S8x256x512_S512x1024_S8x256x1024_2_0_01_1_n_n none x w
/-- The masked scores. -/
def scR (q : FVec Ideal S8x256x1024 .f32) (k : FVec Ideal S8x256x16x64 .f32) : FVec Ideal S8x16x256x256 .f32 :=
  select (broadcastInDim S8x16x256x256 ![0, 1, 2, 3] bcast_S1x1x256x256_S8x16x256x256_0_1_2_3 (broadcastInDim S1x1x256x256 ![2, 3] bcast_S256x256_S1x1x256x256_2_3 bandR)) (mulf (Host.dotGeneral dot_S8x256x16x64_S8x256x16x64_S8x16x256x256_3_3_1_1_02_02 none (shapeCast _ q shapeCasts_S8x256x1024_S8x256x16x64) k) (broadcastInDim S8x16x256x256 ![] bcast_S_S8x16x256x256 (constant S_ .f32 0x3E000000#32))) (broadcastInDim S8x16x256x256 ![] bcast_S_S8x16x256x256 (id (constant S_ .f32 0xFF800000#32)))
/-- The greatest score of each row. -/
def mxR (s : FVec Ideal S8x16x256x256 .f32) : FVec Ideal S8x16x256 .f32 :=
  Host.reduce FloatOps.maximumf s (constant S_ .f32 0xFF800000#32) reducesTo_S8x16x256x256_S8x16x256_d3 h_S_
/-- The exponentials of the scores less the greatest. -/
def exR (s : FVec Ideal S8x16x256x256 .f32) : FVec Ideal S8x16x256x256 .f32 :=
  Host.exp (subf s (broadcastInDim S8x16x256x256 ![0, 1, 2, 3] bcast_S8x16x256x1_S8x16x256x256_0_1_2_3 (broadcastInDim S8x16x256x1 ![0, 1, 2] bcast_S8x16x256_S8x16x256x1_0_1_2 (mxR s))))
/-- The sums of the exponentials, 1 where the window is empty. -/
def smR (e : FVec Ideal S8x16x256x256 .f32) : FVec Ideal S8x16x256x1 .f32 :=
  select (broadcastInDim S8x16x256x1 ![0, 1, 2, 3] bcast_S1x1x256x1_S8x16x256x1_0_1_2_3 (broadcastInDim S1x1x256x1 ![2] bcast_S256_S1x1x256x1_2 keepR)) (broadcastInDim S8x16x256x1 ![0, 1, 2] bcast_S8x16x256_S8x16x256x1_0_1_2 (Host.reduceAdd e (constant S_ .f32 0x00000000#32) reducesTo_S8x16x256x256_S8x16x256_d3 h_S_)) (broadcastInDim S8x16x256x1 ![] bcast_S_S8x16x256x1 (id (constant S_ .f32 0x3F800000#32)))
/-- The weights of the softmax, 0 where the window is empty. -/
def wtR (e : FVec Ideal S8x16x256x256 .f32) : FVec Ideal S8x16x256x256 .f32 :=
  select (broadcastInDim S8x16x256x256 ![0, 1, 2, 3] bcast_S1x1x256x1_S8x16x256x256_0_1_2_3 (broadcastInDim S1x1x256x1 ![2] bcast_S256_S1x1x256x1_2 keepR)) (Host.divf e (broadcastInDim S8x16x256x256 ![0, 1, 2, 3] bcast_S8x16x256x1_S8x16x256x256_0_1_2_3 (smR e))) (broadcastInDim S8x16x256x256 ![] bcast_S_S8x16x256x256 (id (constant S_ .f32 0x00000000#32)))
/-- The context. -/
def ctR (w : FVec Ideal S8x16x256x256 .f32) (v : FVec Ideal S8x256x16x64 .f32) : FVec Ideal S8x256x1024 .f32 :=
  shapeCast _ (transpose S8x256x16x64 [0, 3, 1, 2] (Host.dotGeneral dot_S8x256x16x64_S8x16x256x256_S8x16x64x256_1_3_3_2_02_01 none v w) transposes_S8x16x64x256_S8x256x16x64_0_3_1_2) shapeCasts_S8x256x16x64_S8x256x1024
/-- The result. -/
def outR (x : FVec Ideal S8x256x512 .f32) (wq : FVec Ideal S512x1024 .f32) (k v : FVec Ideal S8x256x16x64 .f32) (wo : FVec Ideal S1024x512 .f32) :
    FVec Ideal S8x256x512 .f32 :=
  Host.dotGeneral dot_S8x256x1024_S1024x512_S8x256x512_2_0_01_1_n_n none (ctR (wtR (exR (scR (qR x (wqR wq)) k))) v) (woR wo)

set_option maxRecDepth 8000 in
set_option maxHeartbeats 4000000 in
/-- The run's term is the result in steps. -/
theorem res_eq (m : (ℓ : Loc nD τ sig) → Buf (Elt Ideal) ℓ) (c : Dev nD) :
    Value.res_main_v60 (F := Ideal) m c = outR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v60
  rfl

end Cert.ReferenceIdeal.Talk

end
-- ==== Proof.RefRead.lean ====
/-
  The reference's steps read at an index.
-/
module

public import proofs.«01_k».proof.Proof.RefValue
public import proofs.«01_k».proof.Proof.KernelHeads
public import Idealize.ShloMosaic.Lib.Routing.OpsOrder

@[expose] public section

namespace Cert.ReferenceIdeal.Talk

open Cert.ReferenceIdeal Cert.ReferenceIdeal.Gen Idealize.ShloMosaic Cert.Attn
open Cert.KernelIdeal.Talk (band band_self)

/-- A query weight's scale is its column's. -/
theorem sqR_apply (w : FVec Ideal S512x1024 .f32) (n : Fin 1024) : sqR w (ix2 (0 : Fin 1) n) = scl fun k : Fin 512 => w (ix2 k n) := by
  unfold sqR
  pointwise
  exact (congrArg (fun b => max (Ideal.div (Finset.fold max b (fun k : Fin 512 => max (w (ix2 k n)) (-(w (ix2 k n)))) Finset.univ) c127) cEps) neg_inf_eq)

/-- A query weight is its integer times its scale. -/
theorem wqR_apply (w : FVec Ideal S512x1024 .f32) (k : Fin 512) (n : Fin 1024) :
    wqR w (ix2 k n) = rnd (w (ix2 k n)) (scl fun k : Fin 512 => w (ix2 k n)) * scl fun k : Fin 512 => w (ix2 k n) := by
  rw [← clip_rnd (fun k : Fin 512 => w (ix2 k n)) k, ← sqR_apply]
  unfold wqR
  pointwise [rnd]
  rfl

/-- An output weight's scale is its row's. -/
theorem soR_apply (w : FVec Ideal S1024x512 .f32) (n : Fin 1024) : soR w (ix2 n (0 : Fin 1)) = scl fun k : Fin 512 => w (ix2 n k) := by
  unfold soR
  pointwise
  exact (congrArg (fun b => max (Ideal.div (Finset.fold max b (fun k : Fin 512 => max (w (ix2 n k)) (-(w (ix2 n k)))) Finset.univ) c127) cEps) neg_inf_eq)

/-- An output weight is its integer times its scale. -/
theorem woR_apply (w : FVec Ideal S1024x512 .f32) (n : Fin 1024) (k : Fin 512) :
    woR w (ix2 n k) = rnd (w (ix2 n k)) (scl fun k : Fin 512 => w (ix2 n k)) * scl fun k : Fin 512 => w (ix2 n k) := by
  rw [← clip_rnd (fun k : Fin 512 => w (ix2 n k)) k, ← soR_apply]
  unfold woR
  pointwise [rnd]
  rfl

/-- The window at two positions. -/
theorem bandR_apply (i j : Fin 256) : bandR (ix2 i j) = if band i j then 1#1 else 0#1 := by
  unfold bandR band
  pointwise
  generalize IntOp.cmpi CmpIPredicate.sle (IntOp.absi (IntOp.subi (BitVec.ofNat 32 i.val) (BitVec.ofNat 32 j.val))) 128#32 = z
  revert z
  decide

/-- Every position's window holds the position. -/
theorem keepR_apply (i : Fin 256) : keepR (ix1 i) = 1#1 := by
  unfold keepR
  pointwise
  rw [Idealize.ShloMosaic.Routing.fold_ori]
  exact ⟨i, Finset.mem_univ i, by rw [bandR_apply, band_self]; rfl⟩

/-- A query. -/
theorem qR_apply (x : FVec Ideal S8x256x512 .f32) (w : FVec Ideal S512x1024 .f32) (b : Fin 8) (i : Fin 256) (n : Fin 1024) :
    qR x (wqR w) (ix3 b i n) = qRef (fun k : Fin 512 => x (ix3 b i k)) (fun k : Fin 512 => w (ix2 k n)) := by
  unfold qR
  pointwise
  exact Finset.sum_congr rfl fun k _ => congrArg (x (ix3 b i k) * ·) (wqR_apply w k n)

/-- Column 64 h + e. -/
def hcol (h : Fin 16) (e : Fin 64) : Fin 1024 := ⟨h.val * 64 + e.val, by have := h.isLt; have := e.isLt; omega⟩

/-- The head of a column, and the column within its head. -/
def hn (n : Fin 1024) : Fin 16 := ⟨n.val / 64, by have := n.isLt; omega⟩
def en (n : Fin 1024) : Fin 64 := ⟨n.val % 64, by omega⟩

/-- A masked score. -/
theorem scR_apply (q : FVec Ideal S8x256x1024 .f32) (k : FVec Ideal S8x256x16x64 .f32) (b : Fin 8) (h : Fin 16) (i j : Fin 256) :
    scR q k (ix4 b h i j) = msk (band i) (fun j : Fin 256 => (∑ e : Fin 64, q (ix3 b i (hcol h e)) * k (ix4 b j h e)) * cEighth) j := by
  unfold scR
  pointwise
  rw [bandR_apply]
  unfold msk
  cases band i j
  · exact neg_inf_eq
  · rfl

/-- The greatest score of a row. -/
theorem mxR_apply (s : FVec Ideal S8x16x256x256 .f32) (b : Fin 8) (h : Fin 16) (i : Fin 256) :
    mxR s (ix3 b h i) = Finset.univ.fold max ⊥ fun j : Fin 256 => s (ix4 b h i j) := by
  unfold mxR
  pointwise
  rw [neg_inf_eq]

/-- An exponential. -/
theorem exR_apply (s : FVec Ideal S8x16x256x256 .f32) (b : Fin 8) (h : Fin 16) (i j : Fin 256) :
    exR s (ix4 b h i j) = Ideal.exp (s (ix4 b h i j) - mxR s (ix3 b h i)) := by
  unfold exR
  pointwise

/-- A sum of exponentials. -/
theorem smR_apply (e : FVec Ideal S8x16x256x256 .f32) (b : Fin 8) (h : Fin 16) (i : Fin 256) :
    smR e (ix4 b h i (0 : Fin 1)) = ∑ j : Fin 256, e (ix4 b h i j) := by
  unfold smR
  pointwise
  rw [keepR_apply]
  exact if_pos rfl

/-- A weight of the softmax. -/
theorem wtR_apply (e : FVec Ideal S8x16x256x256 .f32) (b : Fin 8) (h : Fin 16) (i j : Fin 256) :
    wtR e (ix4 b h i j) = Ideal.div (e (ix4 b h i j)) (∑ j : Fin 256, e (ix4 b h i j)) := by
  unfold wtR
  rw [← smR_apply]
  pointwise
  rw [keepR_apply]
  exact if_pos rfl

/-- A context entry. -/
theorem ctR_apply (w : FVec Ideal S8x16x256x256 .f32) (v : FVec Ideal S8x256x16x64 .f32) (b : Fin 8) (i : Fin 256) (n : Fin 1024) :
    ctR w v (ix3 b i n) = ∑ j : Fin 256, v (ix4 b j (hn n) (en n)) * w (ix4 b (hn n) i j) := by
  unfold ctR
  pointwise
  rfl

/-- An entry of the last product. -/
theorem dot_apply (c : FVec Ideal S8x256x1024 .f32) (w : FVec Ideal S1024x512 .f32) (b : Fin 8) (i : Fin 256) (k : Fin 512) :
    Host.dotGeneral dot_S8x256x1024_S1024x512_S8x256x512_2_0_01_1_n_n none c w (ix3 b i k) = ∑ n : Fin 1024, c (ix3 b i n) * w (ix2 n k) := by
  pointwise

/-- A head's context entry is the softmax of its masked scores, weighing its values. -/
theorem head_apply (x : FVec Ideal S8x256x512 .f32) (wq : FVec Ideal S512x1024 .f32) (ky v : FVec Ideal S8x256x16x64 .f32)
    (b : Fin 8) (i : Fin 256) (n : Fin 1024) :
    ctR (wtR (exR (scR (qR x (wqR wq)) ky))) v (ix3 b i n)
      = hRef (band i) (fun k : Fin 512 => x (ix3 b i k)) (fun (e : Fin 64) (k : Fin 512) => wq (ix2 k (hcol (hn n) e)))
          (fun (j : Fin 256) (e : Fin 64) => ky (ix4 b j (hn n) e)) (fun j : Fin 256 => v (ix4 b j (hn n) (en n))) := by
  have hs : ∀ j : Fin 256, scR (qR x (wqR wq)) ky (ix4 b (hn n) i j)
      = msk (band i) (fun j : Fin 256 => sRef (fun k : Fin 512 => x (ix3 b i k)) (fun (e : Fin 64) (k : Fin 512) => wq (ix2 k (hcol (hn n) e)))
          (fun e : Fin 64 => ky (ix4 b j (hn n) e))) j := fun j => by
    rw [scR_apply]
    simp only [qR_apply]
    rfl
  unfold hRef
  generalize (fun j : Fin 256 => sRef (fun k : Fin 512 => x (ix3 b i k)) (fun (e : Fin 64) (k : Fin 512) => wq (ix2 k (hcol (hn n) e)))
          (fun e : Fin 64 => ky (ix4 b j (hn n) e))) = s at hs ⊢
  rw [ctR_apply]
  simp only [wtR_apply, exR_apply, mxR_apply, hs]
  rfl

/-- An entry of the result. -/
theorem outR_apply (x : FVec Ideal S8x256x512 .f32) (wq : FVec Ideal S512x1024 .f32) (ky v : FVec Ideal S8x256x16x64 .f32)
    (wo : FVec Ideal S1024x512 .f32) (b : Fin 8) (i : Fin 256) (k : Fin 512) :
    outR x wq ky v wo (ix3 b i k)
      = ∑ n : Fin 1024, hRef (band i) (fun k : Fin 512 => x (ix3 b i k)) (fun (e : Fin 64) (k : Fin 512) => wq (ix2 k (hcol (hn n) e)))
          (fun (j : Fin 256) (e : Fin 64) => ky (ix4 b j (hn n) e)) (fun j : Fin 256 => v (ix4 b j (hn n) (en n)))
        * (rnd (wo (ix2 n k)) (scl fun k : Fin 512 => wo (ix2 n k)) * scl fun k : Fin 512 => wo (ix2 n k)) := by
  unfold outR
  rw [dot_apply]
  exact Finset.sum_congr rfl fun n _ => congrArg₂ (· * ·) (head_apply x wq ky v b i n) (woR_apply wo n k)

end Cert.ReferenceIdeal.Talk
-- ==== Proof.Equation.lean ====
/-
  The equation: an entry of what device c writes is the reference's entry at c's batch row, when the device's arrays are their parts of
  the reference's.
-/
module

public import proofs.«01_k».proof.Proof.KernelValue
public import proofs.«01_k».proof.Proof.RefRead

@[expose] public section

namespace Cert.Attn

open Idealize.ShloMosaic Cert.KernelIdeal Cert.KernelIdeal.Talk
open Cert.ReferenceIdeal.Talk (outR outR_apply hcol hn en)

/-- The batch row of the whole array that device c's batch row b is. -/
def gb (c : Dev nD) (b : Fin 2) : Fin 8 := ⟨2 * c.val + b.val, by have := b.isLt; have : c.val < 4 := c.isLt; omega⟩
/-- The head of the whole array that origin d's head h is. -/
def gh (d : Dev nD) (h : Fin 4) : Fin 16 := ⟨4 * d.val + h.val, by have := h.isLt; have : d.val < 4 := d.isLt; omega⟩
/-- The column of the whole query weights, and the row of the whole output weights, that origin d's n-th is. -/
def gc (d : Dev nD) (n : Fin 256) : Fin 1024 := ⟨256 * d.val + n.val, by have := n.isLt; have : d.val < 4 := d.isLt; omega⟩

/-- The head of origin d's column, -/
theorem hn_gc (d : Dev nD) (n : Fin 256) : hn (gc d n) = gh d (hd n) :=
  Fin.ext (show (256 * d.val + n.val) / 64 = 4 * d.val + n.val / 64 by omega)
/-- the column within it, -/
theorem en_gc (d : Dev nD) (n : Fin 256) : en (gc d n) = cl n :=
  Fin.ext (show (256 * d.val + n.val) % 64 = n.val % 64 by omega)
/-- and the head's columns. -/
theorem hcol_gh (d : Dev nD) (h : Fin 4) (e : Fin 64) : hcol (gh d h) e = gc d (hc h e) :=
  Fin.ext (show (4 * d.val + h.val) * 64 + e.val = 256 * d.val + (64 * h.val + e.val) by omega)

/-- The order in which device c adds the origins: itself, then three places on, one, two. -/
noncomputable def order (c : Dev nD) : Equiv.Perm (Fin 4) :=
  Equiv.ofBijective (![c, pr 2 c, pr 0 c, pr 1 c] : Fin 4 → Fin 4) (by revert c; decide)

variable (X : Vec Ideal Cert.ReferenceIdeal.S8x256x512 .f32) (WQ : Vec Ideal Cert.ReferenceIdeal.S512x1024 .f32)
  (K V : Vec Ideal Cert.ReferenceIdeal.S8x256x16x64 .f32) (WO : Vec Ideal Cert.ReferenceIdeal.S1024x512 .f32)
variable (wq : Dev nD → Vec Ideal S512x256 .f32) (wo : Dev nD → Vec Ideal S256x512 .f32)
variable (x0 : Vec Ideal S2x256x512 .f32) (x2 x3 : Vec Ideal S32x256x64 .bf16)

/-- The n-th term of the reference's entry. -/
noncomputable def termR (B : Fin 8) (i : Fin 256) (k : Fin 512) (n : Fin 1024) : EReal :=
  hRef (band i) (fun k : Fin 512 => X (ix3 B i k)) (fun (e : Fin 64) (k : Fin 512) => WQ (ix2 k (hcol (hn n) e)))
      (fun (j : Fin 256) (e : Fin 64) => K (ix4 B j (hn n) e)) (fun j : Fin 256 => V (ix4 B j (hn n) (en n)))
    * (rnd (WO (ix2 n k)) (scl fun k : Fin 512 => WO (ix2 n k)) * scl fun k : Fin 512 => WO (ix2 n k))

/-- A device's arrays are their parts of the reference's. -/
structure Parts (c : Dev nD) : Prop where
  x : ∀ b i k, x0 (ix3 b i k) = X (ix3 (gb c b) i k)
  wq : ∀ d k n, wq d (ix2 k n) = WQ (ix2 k (gc d n))
  k : ∀ d b h j e, x2 (ix3 (kr b d h) j e) = K (ix4 (gb c b) j (gh d h) e)
  v : ∀ d b h j e, x3 (ix3 (kr b d h) j e) = V (ix4 (gb c b) j (gh d h) e)
  wo : ∀ d n k, wo d (ix2 n k) = WO (ix2 (gc d n) k)
  fx : ∀ i, ∃ r : ℝ, x0 i = (r : EReal)
  fk : ∀ i, ∃ r : ℝ, K i = (r : EReal)

variable {X WQ K V WO wq wo x0 x2 x3} {c : Dev nD}

/-- Origin d's n-th term is the reference's at d's n-th column. -/
theorem term_eq (P : Parts X WQ K V WO wq wo x0 x2 x3 c) (d : Dev nD) (b : Fin 2) (i : Fin 256) (k : Fin 512) (n : Fin 256) :
    termR X WQ K V WO (gb c b) i k (gc d n) = termK wq wo x0 x2 x3 d b i k n := by
  unfold termR termK entK
  rw [out_term, head_eq _ _ _ _ _ i (band_self i) (fun k => P.fx _) (fun j e => by rw [P.k]; exact P.fk _)]
  simp only [hn_gc, en_gc, hcol_gh, P.x, P.wq, P.k, P.v, P.wo]

/-- The equation at an entry. -/
theorem entry_eq (P : Parts X WQ K V WO wq wo x0 x2 x3 c) (b : Fin 2) (i : Fin 256) (k : Fin 512) :
    accV (F := Ideal) (outB wq wo x0 x2 x3 c) (ix3 b i k) = outR X WQ K V WO (ix3 (gb c b) i k) := by
  rw [out_apply, outR_apply]
  exact (sum_chunks (fun d n => termK wq wo x0 x2 x3 d b i k n) (order c) (termR X WQ K V WO (gb c b) i k) fun d n =>
    (congrArg (termR X WQ K V WO (gb c b) i k) (Fin.ext (show n.val + 256 * d.val = 256 * d.val + n.val by omega))).trans (term_eq P d b i k n)).symm

end Cert.Attn
-- ==== Proof.Operands.lean ====
/-
  The keys and values that device c's kernel reads: its two batch rows of the whole arrays, the heads before the positions and the first
  two axes merged.
-/
module

public import proofs.«01_k».proof.Proof.Region
public import proofs.«01_k».proof.Proof.Equation
public import Idealize.ShloMosaic.Lib.StableHlo.ReadAt
public import Idealize.ShloMosaic.Lib.DynamicIndex

@[expose] public section

namespace Cert.KernelIdeal.Talk

open Idealize.ShloMosaic Idealize.ShloMosaic.TcCoe Cert.KernelIdeal.Gen Cert.Attn

/-- Device c's two batch rows lie inside the whole array. -/
theorem slB (c : Dev nD) : S8x256x16x64.Slices (![2 * c.val, 0, 0, 0] : Fin 4 → ℕ) S2x256x16x64 := by revert c; decide

/-- Row 16 b + 4 d + h of the operand is head 4 d + h of the b-th batch of the device. -/
theorem at_row (c d : Dev nD) (b : Fin 2) (h : Fin 4) (j : Fin 256) (e : Fin 64)
    (p : 2 * c.val + (kr b d h).val / 16 < 8) (q : (kr b d h).val % 16 < 16) :
    (Idealize.ShloMosaic.ix4 ⟨2 * c.val + (kr b d h).val / 16, p⟩ j ⟨(kr b d h).val % 16, q⟩ e : S8x256x16x64.Idx)
      = Idealize.ShloMosaic.ix4 (gb c b) j (gh d h) e := by
  have h1 : (⟨2 * c.val + (kr b d h).val / 16, p⟩ : Fin 8) = gb c b := by
    apply Fin.ext
    have := d.isLt
    simp only [kr, gb, nD] at *
    omega
  have h2 : (⟨(kr b d h).val % 16, q⟩ : Fin 16) = gh d h := by
    apply Fin.ext
    have := d.isLt
    simp only [kr, gh, nD] at *
    omega
  rw [h1, h2]

/-- The word that the host computes from the device's number is twice the number. -/
theorem start_word (c : Dev nD) (i : S_.Idx) :
    BitVec.toInt (select (cmpi .slt (muli (Host.remui (Host.divui (constantI S_ 32 (Dev.word c)) (constantI S_ 32 1#32)) (constantI S_ 32 4#32)) (constantI S_ 32 2#32)) (constantI S_ 32 0#32))
      (addi (muli (Host.remui (Host.divui (constantI S_ 32 (Dev.word c)) (constantI S_ 32 1#32)) (constantI S_ 32 4#32)) (constantI S_ 32 2#32)) (constantI S_ 32 8#32))
      (muli (Host.remui (Host.divui (constantI S_ 32 (Dev.word c)) (constantI S_ 32 1#32)) (constantI S_ 32 4#32)) (constantI S_ 32 2#32)) i) = ((2 * c.val : ℕ) : ℤ) := by
  simp only [select, cmpi, muli, addi, Host.remui, Host.divui, constantI]
  revert c
  decide

set_option maxRecDepth 8000 in
set_option maxHeartbeats 4000000 in
/-- The keys that device c's kernel reads. -/
theorem opK_apply (m : (ℓ : Loc nD τ sig) → Buf (Elt Ideal) ℓ) (c d : Dev nD) (b : Fin 2) (h : Fin 4) (j : Fin 256) (e : Fin 64) :
    opK (F := Ideal) m c (Idealize.ShloMosaic.ix3 (kr b d h) j e)
      = (m ((c.tc : Thread nD τ).loc main_arg2) : Vec Ideal S8x256x16x64 .f32) (Idealize.ShloMosaic.ix4 (gb c b) j (gh d h) e) := by
  unfold opK V1
  after_reads_simp
  rw [Host.dynamicSlice_eq_extractStridedSlice _ _ _ ![2 * c.val, 0, 0, 0] _ (slB c) (by
    intro a
    fin_cases a
    · simp only [Fin.zero_eta, Matrix.cons_val_zero]
      after_reads_simp
      exact start_word c _
    · simp only [Fin.mk_one, Matrix.cons_val_one]
      after_reads_simp
      rfl
    · simp only [Fin.reduceFinMk, Matrix.cons_val]
      after_reads_simp
      rfl
    · simp only [Fin.reduceFinMk, Matrix.cons_val]
      after_reads_simp
      rfl)]
  try simp -implicitDefEqProofs only [StableHlo.TRef.toBuf, StableHlo.TRef.ofBuf, cast_cast, cast_eq]
  pointwise
  exact congrArg (m (c.tc.loc main_arg2)) (at_row c d b h j e _ _)

set_option maxRecDepth 8000 in
set_option maxHeartbeats 4000000 in
/-- The values that device c's kernel reads. -/
theorem opV_apply (m : (ℓ : Loc nD τ sig) → Buf (Elt Ideal) ℓ) (c d : Dev nD) (b : Fin 2) (h : Fin 4) (j : Fin 256) (e : Fin 64) :
    opV (F := Ideal) m c (Idealize.ShloMosaic.ix3 (kr b d h) j e)
      = (m ((c.tc : Thread nD τ).loc main_arg3) : Vec Ideal S8x256x16x64 .f32) (Idealize.ShloMosaic.ix4 (gb c b) j (gh d h) e) := by
  unfold opV V1
  after_reads_simp
  rw [Host.dynamicSlice_eq_extractStridedSlice _ _ _ ![2 * c.val, 0, 0, 0] _ (slB c) (by
    intro a
    fin_cases a
    · simp only [Fin.zero_eta, Matrix.cons_val_zero]
      after_reads_simp
      exact start_word c _
    · simp only [Fin.mk_one, Matrix.cons_val_one]
      after_reads_simp
      rfl
    · simp only [Fin.reduceFinMk, Matrix.cons_val]
      after_reads_simp
      rfl
    · simp only [Fin.reduceFinMk, Matrix.cons_val]
      after_reads_simp
      rfl)]
  try simp -implicitDefEqProofs only [StableHlo.TRef.toBuf, StableHlo.TRef.ofBuf, cast_cast, cast_eq]
  pointwise
  exact congrArg (m (c.tc.loc main_arg3)) (at_row c d b h j e _ _)

end Cert.KernelIdeal.Talk
-- ==== Proof.Finite.lean ====
/-
  The precondition, read: every entry of x's block and of the keys is a number.
-/
module

public import proofs.«01_k».proof.Pre_finite_scores_KernelIdeal
public import proofs.«01_k».proof.Proof.Quant
public import Idealize.ShloMosaic.Lib.ReduceAll
public import Idealize.ShloMosaic.Lib.Pointwise

@[expose] public section

namespace Cert.Attn

open Idealize.ShloMosaic Cert.Pre_finite_scores_KernelIdeal

/-- An entry whose magnitude is less than infinity is a number. -/
theorem real_of_lt (x : EReal) (h : max x (-x) < ⊤) : ∃ r : ℝ, x = (r : EReal) := by
  refine ⟨x.toReal, (EReal.coe_toReal (fun e => ?_) fun e => ?_).symm⟩ <;> rw [e] at h <;> simp at h

/-- The precondition gives that the entries of the first and third arguments are numbers. -/
theorem finite_of_pre [Cert.Pre_finite_scores_KernelIdeal.Facts] (x : FVec Ideal S2x256x512 .f32) (wq : FVec Ideal S512x256 .f32)
    (k v : FVec Ideal S8x256x16x64 .f32) (wo : FVec Ideal S256x512 .f32) (h : fn (F := Ideal) x wq k v wo = fun _ => 1#1) :
    (∀ i, ∃ r : ℝ, x i = (r : EReal)) ∧ ∀ i, ∃ r : ℝ, k i = (r : EReal) := by
  have h0 := congrFun h ix0
  dsimp only [fn] at h0
  have : Subsingleton S_.Idx := ⟨fun a b => funext fun i => i.elim0⟩
  have h12 : ∀ a b : BitVec 1, IntOp.andi a b = 1#1 → a = 1#1 ∧ b = 1#1 := by decide
  have hlt : ∀ a b : EReal, Ideal.cmp .olt a b = 1#1 → a < b := fun a b => by
    intro h
    by_contra hn
    rw [Ideal.cmp, decide_eq_false hn] at h
    exact absurd h (by decide)
  obtain ⟨h1, h2⟩ := h12 _ _ h0
  constructor <;> intro i <;> refine real_of_lt _ ?_ <;> rw [← inf_eq] <;> refine hlt _ _ ?_
  · exact Host.reduce_andi_all _ _ _ _ _ h1 i
  · exact Host.reduce_andi_all _ _ _ _ _ h2 i

end Cert.Attn
-- ==== Proof.Value.lean ====
/-
  What the four devices hold at the end is the reference's result, each its two batch rows.
-/
module

public import proofs.«01_k».proof.Proof.Operands
public import proofs.«01_k».proof.Proof.Finite
public import proofs.«01_k».proof.Proof.Launch
public import proofs.«01_k».proof.Defs

@[expose] public section

noncomputable section

namespace Cert.Proof

open Idealize.ShloMosaic Idealize.SL.Sem Cert.Attn Cert.KernelIdeal.Talk

/-- A device's block of an array cut along the batch, at an index. -/
theorem block_batch (c : Dev 4) (v : (⟨3, ![8, 256, 512]⟩ : Shape).Idx → EReal) (b : Fin 2) (i : Fin 256) (k : Fin 512) :
    Layout.block ⟨3, ![2, 256, 512]⟩ ⟨3, ![8, 256, 512]⟩ 0 4 c v (by decide) (Idealize.ShloMosaic.ix3 b i k) = v (Idealize.ShloMosaic.ix3 (gb c b) i k) := by
  refine congrArg v (funext fun a => Fin.ext ?_)
  fin_cases a
  · exact Nat.add_right_cancel_iff.mpr (Nat.mul_comm c.val 2)
  · rfl
  · rfl

/-- A device's block of the query weights, at an index. -/
theorem block_wq (c : Dev 4) (v : (⟨2, ![512, 1024]⟩ : Shape).Idx → EReal) (k : Fin 512) (n : Fin 256) :
    Layout.block ⟨2, ![512, 256]⟩ ⟨2, ![512, 1024]⟩ 1 4 c v (by decide) (Idealize.ShloMosaic.ix2 k n) = v (Idealize.ShloMosaic.ix2 k (gc c n)) := by
  refine congrArg v (funext fun a => Fin.ext ?_)
  fin_cases a
  · rfl
  · exact Nat.add_right_cancel_iff.mpr (Nat.mul_comm c.val 256)

/-- A device's block of the output weights, at an index. -/
theorem block_wo (c : Dev 4) (v : (⟨2, ![1024, 512]⟩ : Shape).Idx → EReal) (n : Fin 256) (k : Fin 512) :
    Layout.block ⟨2, ![256, 512]⟩ ⟨2, ![1024, 512]⟩ 0 4 c v (by decide) (Idealize.ShloMosaic.ix2 n k) = v (Idealize.ShloMosaic.ix2 (gc c n) k) := by
  refine congrArg v (funext fun a => Fin.ext ?_)
  fin_cases a
  · exact Nat.add_right_cancel_iff.mpr (Nat.mul_comm c.val 256)
  · rfl

variable [hPre : Cert.Pre_finite_scores_KernelIdeal.Facts]

/-- The kernel's run ends with the reference's result, cut along the batch. -/
theorem value : Cert.algebraic_KernelIdeal_ReferenceIdeal_pre_finite_scores_KernelIdeal := fun m ρ m' ρ' hp hm => by
  refine ⟨Cert.ReferenceIdeal.Value.res_main_v60 m' 0, (θ_run Cert.KernelIdeal.defs _ _).mono (fun _ h c => ?_) (run_main (F := Ideal) m ρ),
    (θ_run Cert.ReferenceIdeal.defs _ _).mono (fun _ h => h 0) (Cert.ReferenceIdeal.Value.run (F := Ideal) m' ρ')⟩
  refine ⟨(h.1 c).1.trans ?_, (h.1 c).2⟩
  have hf := finite_of_pre _ _ _ _ _ (hp c)
  have P : Parts _ _ _ _ _ (argWq m) (argWo m) (opX m c) (opK m c) (opV m c) c :=
    { x := fun b i k => (congrFun (hm c).1 _).trans (block_batch c _ b i k)
      wq := fun d k n => (congrFun (hm d).2.1 _).trans (block_wq d _ k n)
      k := fun d b h j e => (opK_apply m c d b h j e).trans (congrFun (hm c).2.2.1 _)
      v := fun d b h j e => (opV_apply m c d b h j e).trans (congrFun (hm c).2.2.2.1 _)
      wo := fun d n k => (congrFun (hm d).2.2.2.2 _).trans (block_wo d _ n k)
      fx := hf.1
      fk := fun i => by rw [← (hm c).2.2.1]; exact hf.2 i }
  funext i
  obtain ⟨b, r, k, rfl⟩ : ∃ (b : Fin 2) (r : Fin 256) (k : Fin 512), i = Idealize.ShloMosaic.ix3 b r k :=
    ⟨i 0, i 1, i 2, funext fun a => by fin_cases a <;> rfl⟩
  refine Eq.trans ?_ (block_batch c _ b r k).symm
  rw [Cert.ReferenceIdeal.Talk.res_eq]
  exact entry_eq P b r k

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Frame
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference's run; it declares no semaphore. -/
theorem frame_reference : Cert.quiescent_ReferenceIdeal := fun m ρ _ =>
  (θ_run Cert.ReferenceIdeal.defs _ _).mono
    (fun _ h => ⟨fun c => (h c).2, funext fun g => by obtain ⟨_, s⟩ := g; rcases s with s | s <;> exact s.elim0⟩)
    (Cert.ReferenceIdeal.Value.run (F := Ideal) m ρ)

/-- Every claim: the runs, with the condition on the arguments and without, the idealization, and the value. -/
theorem claim : Cert.Claim :=
  ⟨Cert.Kernel.Gen.facts, Cert.KernelIdeal.Gen.facts, Cert.ReferenceIdeal.Gen.facts, Cert.Pre_finite_scores_KernelIdeal.Gen.facts,
    Cert.Pre_finite_scores_ReferenceIdeal.Gen.facts, by
    exact ⟨frame_kernel, frame_ideal, fun m ρ _ => frame_ideal m ρ trivial, frame_reference, fun m ρ _ => frame_reference m ρ trivial, trivial, value⟩⟩

end Cert.Proof

end
